-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "third" .f32 0x3EAAAAAB#32 ((1 / 3 : ℝ) : EReal)
  ∧ IdealRules.named_const.Statement Cert.KernelIdeal.κ "fifteenth" .f32 0x3D888889#32 ((1 / 15 : ℝ) : EReal)
  ∧ IdealRules.named_const.Statement Cert.KernelIdeal.κ "rsqrt_d" .f32 0x3DB504F3#32 (((Real.sqrt 128)⁻¹ : ℝ) : EReal)

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v56) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S8x32x4x128 : Shape := ⟨4, ![8, 32, 4, 128]⟩
abbrev S8x32x2048x128 : Shape := ⟨4, ![8, 32, 2048, 128]⟩
abbrev S_ : Shape := ⟨0, ![]⟩

class Facts : Prop where
  bcast_S_S8x32x4x128 : S_.BroadcastsInDim S8x32x4x128 (![] : Fin 0 → Fin S8x32x4x128.rank)
  reducesTo_S8x32x4x128_S_d0_1_2_3 : S8x32x4x128.ReducesTo [0, 1, 2, 3] S_
  h_S_ : 0 < S_.numel
  bcast_S_S8x32x2048x128 : S_.BroadcastsInDim S8x32x2048x128 (![] : Fin 0 → Fin S8x32x2048x128.rank)
  reducesTo_S8x32x2048x128_S_d0_1_2_3 : S8x32x2048x128.ReducesTo [0, 1, 2, 3] S_

variable [Facts]

def fn {F : FTy → Type} [FloatOps F] (main_arg0 : FVec F S8x32x4x128 .f32) (main_arg1 : FVec F S8x32x2048x128 .f32) (main_arg2 : FVec F S8x32x2048x128 .f32) : IVec S_ 1 :=
  let main_v0 : FVec F S8x32x4x128 .f32 := Host.absf main_arg0
  let main_cst : FVec F S_ .f32 := constant S_ .f32 0x7F800000#32
  let main_v1 : FVec F S8x32x4x128 .f32 := broadcastInDim S8x32x4x128 ![] bcast_S_S8x32x4x128 main_cst
  let main_v2 : IVec S8x32x4x128 1 := cmpf .olt main_v0 main_v1
  let main_c : IVec S_ 1 := constantI S_ 1 1#1
  let main_v3 : IVec S_ 1 := (fun x v => Host.reduce IntOp.andi x v reducesTo_S8x32x4x128_S_d0_1_2_3 h_S_) main_v2 main_c
  let main_v4 : FVec F S8x32x2048x128 .f32 := Host.absf main_arg1
  let main_cst_0 : FVec F S_ .f32 := constant S_ .f32 0x7F800000#32
  let main_v5 : FVec F S8x32x2048x128 .f32 := broadcastInDim S8x32x2048x128 ![] bcast_S_S8x32x2048x128 main_cst_0
  let main_v6 : IVec S8x32x2048x128 1 := cmpf .olt main_v4 main_v5
  let main_c_1 : IVec S_ 1 := constantI S_ 1 1#1
  let main_v7 : IVec S_ 1 := (fun x v => Host.reduce IntOp.andi x v reducesTo_S8x32x2048x128_S_d0_1_2_3 h_S_) main_v6 main_c_1
  let main_v8 : IVec S_ 1 := andi main_v3 main_v7
  let main_v9 : FVec F S8x32x2048x128 .f32 := Host.absf main_arg2
  let main_cst_2 : FVec F S_ .f32 := constant S_ .f32 0x7F800000#32
  let main_v10 : FVec F S8x32x2048x128 .f32 := broadcastInDim S8x32x2048x128 ![] bcast_S_S8x32x2048x128 main_cst_2
  let main_v11 : IVec S8x32x2048x128 1 := cmpf .olt main_v9 main_v10
  let main_c_3 : IVec S_ 1 := constantI S_ 1 1#1
  let main_v12 : IVec S_ 1 := (fun x v => Host.reduce IntOp.andi x v reducesTo_S8x32x2048x128_S_d0_1_2_3 h_S_) main_v11 main_c_3
  let main_v13 : IVec S_ 1 := andi main_v8 main_v12
  main_v13
-- ==== Kernel.lean ====
abbrev S8x32x4x128 : Shape := ⟨4, ![8, 32, 4, 128]⟩
abbrev S8x32x2048x128 : Shape := ⟨4, ![8, 32, 2048, 128]⟩
abbrev S1x32x4x128 : Shape := ⟨4, ![1, 32, 4, 128]⟩
abbrev S1x32x512x128 : Shape := ⟨4, ![1, 32, 512, 128]⟩
abbrev S32x4x128 : Shape := ⟨3, ![32, 4, 128]⟩
abbrev S32x4 : Shape := ⟨2, ![32, 4]⟩
abbrev S32x512x128 : Shape := ⟨3, ![32, 512, 128]⟩
abbrev S1x512x128 : Shape := ⟨3, ![1, 512, 128]⟩
abbrev S512x128 : Shape := ⟨2, ![512, 128]⟩
abbrev S512 : Shape := ⟨1, ![512]⟩
abbrev S1x512x1 : Shape := ⟨3, ![1, 512, 1]⟩
abbrev S32x4x512 : Shape := ⟨3, ![32, 4, 512]⟩
abbrev S32x4x1 : Shape := ⟨3, ![32, 4, 1]⟩
abbrev S1x1x512 : Shape := ⟨3, ![1, 1, 512]⟩

abbrev nBuf : Space → Nat
  | .hbm => 4
  | .vmem => 11
  | .smem => 0
  | _ => 0

abbrev bufTy : (tb : Table) → Fin (tcTables nBuf tb) → BufTy
  | .hbm, ⟨0, _⟩ => ⟨S8x32x4x128, .f32⟩
  | .hbm, ⟨1, _⟩ => ⟨S8x32x2048x128, .f32⟩
  | .hbm, ⟨2, _⟩ => ⟨S8x32x2048x128, .f32⟩
  | .hbm, ⟨3, _⟩ => ⟨S8x32x4x128, .f32⟩
  | .local _ .vmem, ⟨0, _⟩ => ⟨S1x32x4x128, .f32⟩
  | .local _ .vmem, ⟨1, _⟩ => ⟨S1x32x4x128, .f32⟩
  | .local _ .vmem, ⟨2, _⟩ => ⟨S1x32x512x128, .f32⟩
  | .local _ .vmem, ⟨3, _⟩ => ⟨S1x32x512x128, .f32⟩
  | .local _ .vmem, ⟨4, _⟩ => ⟨S1x32x512x128, .f32⟩
  | .local _ .vmem, ⟨5, _⟩ => ⟨S1x32x512x128, .f32⟩
  | .local _ .vmem, ⟨6, _⟩ => ⟨S1x32x4x128, .f32⟩
  | .local _ .vmem, ⟨7, _⟩ => ⟨S1x32x4x128, .f32⟩
  | .local _ .vmem, ⟨8, _⟩ => ⟨S32x4x128, .f32⟩
  | .local _ .vmem, ⟨9, _⟩ => ⟨S32x4, .f32⟩
  | .local _ .vmem, ⟨10, _⟩ => ⟨S32x4, .f32⟩
  | _, _ => ⟨S8x32x4x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v357 : BitVec 1 := Scalar.cmpi .eq arg1 c3_i32
  let v358 : BitVec 32 := Scalar.extui v357
  let c0_i32_45 : BitVec 32 := 0#32
  let v359 : BitVec 1 := Scalar.cmpi .ne v358 c0_i32_45
  v359

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x32x4x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x32x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x32x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x32x4x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]
-- ==== KernelIdeal.lean ====
variable {F : FTy → Type} [FloatOps F] [Named F]
def κ : String → Option EReal := fun
  | "fifteenth" => some ((1 / 15 : ℝ) : EReal)
  | "rsqrt_d" => some (((Real.sqrt 128)⁻¹ : ℝ) : EReal)
  | "third" => some ((1 / 3 : ℝ) : EReal)
  | _ => none
-- ==== ReferenceIdeal.lean ====
abbrev S8x32x4x128 : Shape := ⟨4, ![8, 32, 4, 128]⟩
abbrev S8x32x2048x128 : Shape := ⟨4, ![8, 32, 2048, 128]⟩
abbrev S_ : Shape := ⟨0, ![]⟩
abbrev S8x2048x128 : Shape := ⟨3, ![8, 2048, 128]⟩
abbrev S8x1x2048x128 : Shape := ⟨4, ![8, 1, 2048, 128]⟩
abbrev S8x2048 : Shape := ⟨2, ![8, 2048]⟩
abbrev S8x1x2048x1 : Shape := ⟨4, ![8, 1, 2048, 1]⟩
abbrev S8x32x4x2048 : Shape := ⟨4, ![8, 32, 4, 2048]⟩
abbrev S8x32x4 : Shape := ⟨3, ![8, 32, 4]⟩
abbrev S8x32x4x1 : Shape := ⟨4, ![8, 32, 4, 1]⟩

abbrev nBuf : Space → Nat
  | .hbm => 92
  | .vmem => 0
  | .smem => 0
  | _ => 0

abbrev bufTy : (tb : Table) → Fin (tcTables nBuf tb) → BufTy
  | .hbm, ⟨0, _⟩ => ⟨S8x32x4x128, .f32⟩
  | .hbm, ⟨1, _⟩ => ⟨S8x32x2048x128, .f32⟩
  | .hbm, ⟨2, _⟩ => ⟨S8x32x2048x128, .f32⟩
  | .hbm, ⟨3, _⟩ => ⟨S_, .f32⟩
  | .hbm, ⟨4, _⟩ => ⟨S8x2048x128, .f32⟩
  | .hbm, ⟨5, _⟩ => ⟨S8x1x2048x128, .f32⟩
  | .hbm, ⟨6, _⟩ => ⟨S_, .f32⟩
  | .hbm, ⟨7, _⟩ => ⟨S8x2048x128, .f32⟩
  | .hbm, ⟨8, _⟩ => ⟨S8x1x2048x128, .f32⟩
  | .hbm, ⟨9, _⟩ => ⟨S8x1x2048x128, .f32⟩
  | .hbm, ⟨10, _⟩ => ⟨S_, .f32⟩
  | .hbm, ⟨11, _⟩ => ⟨S8x1x2048x128, .f32⟩
  | .hbm, ⟨12, _⟩ => ⟨S8x1x2048x128, .f32⟩
  | .hbm, ⟨13, _⟩ => ⟨S_, .f32⟩
  | .hbm, ⟨14, _⟩ => ⟨S8x1x2048x128, .f32⟩
  | .hbm, ⟨15, _⟩ => ⟨S8x1x2048x128, .i1⟩
  | .hbm, ⟨16, _⟩ => ⟨S_, .f32⟩
  | .hbm, ⟨17, _⟩ => ⟨S_, .f32⟩
  | .hbm, ⟨18, _⟩ => ⟨S8x1x2048x128, .f32⟩
  | .hbm, ⟨19, _⟩ => ⟨S8x1x2048x128, .f32⟩
  | .hbm, ⟨20, _⟩ => ⟨S8x32x2048x128, .f32⟩
  | .hbm, ⟨21, _⟩ => ⟨S8x32x2048x128, .f32⟩
  | .hbm, ⟨22, _⟩ => ⟨S8x32x2048x128, .f32⟩
  | .hbm, ⟨23, _⟩ => ⟨S8x32x2048x128, .f32⟩
  | .hbm, ⟨24, _⟩ => ⟨S8x32x2048x128, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8x32x2048x128, .f32⟩
  | .hbm, ⟨29, _⟩ => ⟨S8x32x2048x128, .f32⟩
  | .hbm, ⟨30, _⟩ => ⟨S_, .f32⟩
  | .hbm, ⟨31, _⟩ => ⟨S8x32x2048x128, .f32⟩
  | .hbm, ⟨32, _⟩ => ⟨S8x32x2048x128, .f32⟩
  | .hbm, ⟨33, _⟩ => ⟨S8x32x2048x128, .f32⟩
  | .hbm, ⟨34, _⟩ => ⟨S8x32x2048x128, .f32⟩
  | .hbm, ⟨35, _⟩ => ⟨S8x32x2048x128, .f32⟩
  | .hbm, ⟨36, _⟩ => ⟨S8x32x2048x128, .f32⟩
  | .hbm, ⟨37, _⟩ => ⟨S_, .f32⟩
  | .hbm, ⟨38, _⟩ => ⟨S8x2048, .f32⟩
  | .hbm, ⟨39, _⟩ => ⟨S8x1x2048x1, .f32⟩
  | .hbm, ⟨40, _⟩ => ⟨S_, .f32⟩
  | .hbm, ⟨41, _⟩ => ⟨S8x2048, .f32⟩
  | .hbm, ⟨42, _⟩ => ⟨S8x1x2048x1, .f32⟩
  | .hbm, ⟨43, _⟩ => ⟨S8x1x2048x1, .f32⟩
  | .hbm, ⟨44, _⟩ => ⟨S_, .f32⟩
  | .hbm, ⟨45, _⟩ => ⟨S8x1x2048x1, .f32⟩
  | .hbm, ⟨46, _⟩ => ⟨S8x1x2048x1, .f32⟩
  | .hbm, ⟨47, _⟩ => ⟨S_, .f32⟩
  | .hbm, ⟨48, _⟩ => ⟨S8x1x2048x1, .f32⟩
  | .hbm, ⟨49, _⟩ => ⟨S8x1x2048x1, .i1⟩
  | .hbm, ⟨50, _⟩ => ⟨S_, .f32⟩
  | .hbm, ⟨51, _⟩ => ⟨S_, .f32⟩
  | .hbm, ⟨52, _⟩ => ⟨S8x1x2048x1, .f32⟩
  | .hbm, ⟨53, _⟩ => ⟨S8x1x2048x1, .f32⟩
  | .hbm, ⟨54, _⟩ => ⟨S8x32x2048x128, .f32⟩
  | .hbm, ⟨55, _⟩ => ⟨S8x32x2048x128, .f32⟩
  | .hbm, ⟨56, _⟩ => ⟨S8x32x2048x128, .f32⟩
  | .hbm, ⟨57, _⟩ => ⟨S8x32x2048x128, .f32⟩
  | .hbm, ⟨58, _⟩ => ⟨S8x32x2048x128, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S8x32x2048x128, .f32⟩
  | .hbm, ⟨63, _⟩ => ⟨S8x32x2048x128, .f32⟩
  | .hbm, ⟨64, _⟩ => ⟨S_, .f32⟩
  | .hbm, ⟨65, _⟩ => ⟨S8x32x2048x128, .f32⟩
  | .hbm, ⟨66, _⟩ => ⟨S8x32x2048x128, .f32⟩
  | .hbm, ⟨67, _⟩ => ⟨S8x32x2048x128, .f32⟩
  | .hbm, ⟨68, _⟩ => ⟨S8x32x2048x128, .f32⟩
  | .hbm, ⟨69, _⟩ => ⟨S8x32x2048x128, .f32⟩
  | .hbm, ⟨70, _⟩ => ⟨S8x32x2048x128, .f32⟩
  | .hbm, ⟨71, _⟩ => ⟨S8x32x4x2048, .f32⟩
  | .hbm, ⟨72, _⟩ => ⟨S_, .f32⟩
  | .hbm, ⟨73, _⟩ => ⟨S_, .f32⟩
  | .hbm, ⟨74, _⟩ => ⟨S_, .f32⟩
  | .hbm, ⟨75, _⟩ => ⟨S8x32x4x2048, .f32⟩
  | .hbm, ⟨76, _⟩ => ⟨S8x32x4x2048, .f32⟩
  | .hbm, ⟨77, _⟩ => ⟨S_, .f32⟩
  | .hbm, ⟨78, _⟩ => ⟨S8x32x4, .f32⟩
  | .hbm, ⟨79, _⟩ => ⟨S_, .f32⟩
  | .hbm, ⟨80, _⟩ => ⟨S8x32x4, .f32⟩
  | .hbm, ⟨81, _⟩ => ⟨S8x32x4, .f32⟩
  | .hbm, ⟨82, _⟩ => ⟨S8x32x4x1, .f32⟩
  | .hbm, ⟨83, _⟩ => ⟨S8x32x4x2048, .f32⟩
  | .hbm, ⟨84, _⟩ => ⟨S8x32x4x2048, .f32⟩
  | .hbm, ⟨85, _⟩ => ⟨S8x32x4x2048, .f32⟩
  | .hbm, ⟨86, _⟩ => ⟨S_, .f32⟩
  | .hbm, ⟨87, _⟩ => ⟨S8x32x4, .f32⟩
  | .hbm, ⟨88, _⟩ => ⟨S8x32x4x1, .f32⟩
  | .hbm, ⟨89, _⟩ => ⟨S8x32x4x2048, .f32⟩
  | .hbm, ⟨90, _⟩ => ⟨S8x32x4x2048, .f32⟩
  | .hbm, ⟨91, _⟩ => ⟨S8x32x4x128, .f32⟩
  | _, _ => ⟨S8x32x4x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_cst_2 : Ref sig .tc := ⟨.hbm, 13, rfl⟩
abbrev main_v7 : Ref sig .tc := ⟨.hbm, 14, rfl⟩
abbrev main_v8 : Ref sig .tc := ⟨.hbm, 15, rfl⟩
abbrev main_cst_3 : Ref sig .tc := ⟨.hbm, 16, rfl⟩
abbrev main_call0_v0 : Ref sig .tc := ⟨.hbm, 17, rfl⟩
abbrev main_call0_v1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_cst_5 : Ref sig .tc := ⟨.hbm, 26, rfl⟩
abbrev main_call2_v0 : Ref sig .tc := ⟨.hbm, 27, rfl⟩
abbrev main_call2_v1 : Ref sig .tc := ⟨.hbm, 28, rfl⟩
abbrev main_call2_v2 : Ref sig .tc := ⟨.hbm, 29, rfl⟩
abbrev main_call2_v3 : Ref sig .tc := ⟨.hbm, 30, rfl⟩
abbrev main_call2_v4 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_cst_6 : Ref sig .tc := ⟨.hbm, 37, rfl⟩
abbrev main_v20 : Ref sig .tc := ⟨.hbm, 38, rfl⟩
abbrev main_v21 : Ref sig .tc := ⟨.hbm, 39, rfl⟩
abbrev main_cst_7 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_8 : Ref sig .tc := ⟨.hbm, 44, rfl⟩
abbrev main_v25 : Ref sig .tc := ⟨.hbm, 45, rfl⟩
abbrev main_v26 : Ref sig .tc := ⟨.hbm, 46, rfl⟩
abbrev main_cst_9 : Ref sig .tc := ⟨.hbm, 47, rfl⟩
abbrev main_v27 : Ref sig .tc := ⟨.hbm, 48, rfl⟩
abbrev main_v28 : Ref sig .tc := ⟨.hbm, 49, rfl⟩
abbrev main_cst_10 : Ref sig .tc := ⟨.hbm, 50, rfl⟩
abbrev main_call3_v0 : Ref sig .tc := ⟨.hbm, 51, rfl⟩
abbrev main_call3_v1 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_cst_11 : Ref sig .tc := ⟨.hbm, 59, rfl⟩
abbrev main_cst_12 : Ref sig .tc := ⟨.hbm, 60, rfl⟩
abbrev main_call5_v0 : Ref sig .tc := ⟨.hbm, 61, rfl⟩
abbrev main_call5_v1 : Ref sig .tc := ⟨.hbm, 62, rfl⟩
abbrev main_call5_v2 : Ref sig .tc := ⟨.hbm, 63, rfl⟩
abbrev main_call5_v3 : Ref sig .tc := ⟨.hbm, 64, rfl⟩
abbrev main_call5_v4 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_v39 : Ref sig .tc := ⟨.hbm, 70, rfl⟩
abbrev main_v40 : Ref sig .tc := ⟨.hbm, 71, rfl⟩
abbrev main_cst_13 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_cst_14 : Ref sig .tc := ⟨.hbm, 77, rfl⟩
abbrev main_v45 : Ref sig .tc := ⟨.hbm, 78, rfl⟩
abbrev main_cst_15 : Ref sig .tc := ⟨.hbm, 79, rfl⟩
abbrev main_v46 : Ref sig .tc := ⟨.hbm, 80, rfl⟩
abbrev main_v47 : Ref sig .tc := ⟨.hbm, 81, rfl⟩
abbrev main_v48 : Ref sig .tc := ⟨.hbm, 82, rfl⟩
abbrev main_v49 : Ref sig .tc := ⟨.hbm, 83, rfl⟩
abbrev main_v50 : Ref sig .tc := ⟨.hbm, 84, rfl⟩
abbrev main_v51 : Ref sig .tc := ⟨.hbm, 85, rfl⟩
abbrev main_cst_16 : Ref sig .tc := ⟨.hbm, 86, rfl⟩
abbrev main_v52 : Ref sig .tc := ⟨.hbm, 87, rfl⟩
abbrev main_v53 : Ref sig .tc := ⟨.hbm, 88, rfl⟩
abbrev main_v54 : Ref sig .tc := ⟨.hbm, 89, rfl⟩
abbrev main_v55 : Ref sig .tc := ⟨.hbm, 90, rfl⟩
abbrev main_v56 : Ref sig .tc := ⟨.hbm, 91, rfl⟩

abbrev nD : Nat := 1
abbrev τ : Topo := Topo.v7x

variable {F : FTy → Type} [FloatOps F]
-- ==== Proof.Step.lean ====
/-
  WHAT ONE GRID POINT LEAVES in the three carried buffers (accumulator, running maximum, running sum) and, at the last
  chunk of a batch, in the output block: each as the composition of the body's payloads over the blocks it loads.
  The three cases of the body (first chunk, middle chunk, last chunk) leave the SAME functions `accNew`, `mNew`, `lNew`
  of what they start from; the first chunk starts from the reset values `accInit`, `mInit`, `lInit`.
-/
module

public import proofs.«01_k».proof.Proof.Gen.KernelIdeal.Frame
public import Idealize.ShloMosaic.Lib.Pipeline.Value
public import Idealize.ShloMosaic.Lib.Tactic

@[expose] public section

set_option maxRecDepth 16384

noncomputable section

namespace Cert.KernelIdeal.Step

open Idealize.ShloMosaic Idealize.ShloMosaic.TcCoe Idealize.SL.Sem
open Cert.KernelIdeal Cert.KernelIdeal.Gen

variable {F : FTy → Type} [FloatOps F] [Named F]

/-! ## The point's functions, as compositions of the body's payloads -/

/-- The dequantised key block: 2-bit codes per (row, channel), over the heads, times the scale, plus the minimum. -/
def kdq (x1 : Vec F S1x32x512x128 .f32) : FVec F S32x512x128 .f32 :=
  k0_pay47 (k0_pay43 (k0_pay5 x1) (k0_pay32 (k0_pay5 x1) (k0_pay15 x1) (k0_pay17 x1)) (k0_pay34 (k0_pay5 x1)))
    (k0_pay45 (k0_pay5 x1) (k0_pay32 (k0_pay5 x1) (k0_pay15 x1) (k0_pay17 x1)) (k0_pay33 (k0_pay5 x1) (k0_pay16 x1) (k0_pay17 x1)) (k0_pay34 (k0_pay5 x1)))
    (k0_pay46 (k0_pay5 x1) (k0_pay32 (k0_pay5 x1) (k0_pay15 x1) (k0_pay17 x1)) (k0_pay33 (k0_pay5 x1) (k0_pay16 x1) (k0_pay17 x1)) (k0_pay34 (k0_pay5 x1)))

/-- The minimum over heads 0 to 28 of the value block. -/
def vlo (x2 : Vec F S1x32x512x128 .f32) : FVec F S512x128 .f32 := k0_pay78 (k0_pay6 x2) (k0_pay61 (k0_pay6 x2))
/-- The maximum over heads 0 to 28 of the value block. -/
def vhi (x2 : Vec F S1x32x512x128 .f32) : FVec F S512x128 .f32 := k0_pay79 (k0_pay6 x2) (k0_pay62 (k0_pay6 x2))

/-- The rescale factor of what was accumulated so far. -/
def alpha (x0 : Vec F S1x32x4x128 .f32) (x1 : Vec F S1x32x512x128 .f32) (mp : Vec F S32x4 .f32) : FVec F S32x4 .f32 :=
  k0_pay88 (k0_pay7 x0) (kdq x1) mp
/-- The unnormalised weights of this chunk's rows. -/
def wts (x0 : Vec F S1x32x4x128 .f32) (x1 : Vec F S1x32x512x128 .f32) (mp : Vec F S32x4 .f32) : FVec F S32x4x512 .f32 :=
  k0_pay89 (k0_pay7 x0) (kdq x1) mp

/-- The new running maximum. -/
def mNew (x0 : Vec F S1x32x4x128 .f32) (x1 : Vec F S1x32x512x128 .f32) (mp : Vec F S32x4 .f32) : FVec F S32x4 .f32 :=
  k0_pay92 (k0_pay87 (k0_pay7 x0) (kdq x1) mp)
/-- The new running sum. -/
def lNew (x0 : Vec F S1x32x4x128 .f32) (x1 : Vec F S1x32x512x128 .f32) (mp lp : Vec F S32x4 .f32) : FVec F S32x4 .f32 :=
  k0_pay90 (alpha x0 x1 mp) (wts x0 x1 mp) lp
/-- The new accumulator. -/
def accNew (x0 : Vec F S1x32x4x128 .f32) (x1 x2 : Vec F S1x32x512x128 .f32) (mp : Vec F S32x4 .f32) (ap : Vec F S32x4x128 .f32) : FVec F S32x4x128 .f32 :=
  k0_pay91 (k0_pay83 (k0_pay6 x2) (vlo x2)) (k0_pay84 (k0_pay6 x2) (vlo x2) (vhi x2)) (k0_pay85 (k0_pay6 x2) (vlo x2) (vhi x2))
    (alpha x0 x1 mp) (wts x0 x1 mp) ap

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

section
variable (c : Dev nD) (i : grid0.Coords) (arg2 : Memref sig .tc .vmem S1x32x4x128 .f32) (harg2 : arg2.IsWhole) (arg3 : Memref sig .tc .vmem S1x32x512x128 .f32) (harg3 : arg3.IsWhole) (arg4 : Memref sig .tc .vmem S1x32x512x128 .f32) (harg4 : arg4.IsWhole) (arg5 : Memref sig .tc .vmem S1x32x4x128 .f32) (harg5 : arg5.IsWhole) (arg6 : Memref sig .tc .vmem S32x4x128 .f32) (harg6 : arg6.IsWhole) (arg7 : Memref sig .tc .vmem S32x4 .f32) (harg7 : arg7.IsWhole) (arg8 : Memref sig .tc .vmem S32x4 .f32) (harg8 : arg8.IsWhole)
  (x0 : Vec F S1x32x4x128 .f32) (x1 : Vec F S1x32x512x128 .f32) (x2 : Vec F S1x32x512x128 .f32) (xs0 : Vec F S32x4x128 .f32) (xs1 : Vec F S32x4 .f32) (xs2 : Vec F S32x4 .f32)

set_option maxHeartbeats 4000000 in
/-- At a middle chunk the body leaves the new accumulator. -/
theorem sout_B_0 (hc0 : ¬cond0_0 i) (hc1 : ¬cond0_1 i) :
    sout0_B_0 c i arg2 harg2 arg3 harg3 arg4 harg4 arg5 harg5 arg6 harg6 arg7 harg7 arg8 harg8 hc0 hc1 x0 x1 x2 xs0 xs1 xs2 = accNew x0 x1 x2 xs1 xs0 := by
  unfold sout0_B_0
  rw [View.read_writes_eq_canon _ _ _ (scover0_B_0 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero (S := S32x4x128) hz3]
  simp only [View.readAt_eq_ld, harg2.read_unread, harg3.read_unread, harg4.read_unread, harg6.read_unread, harg7.read_unread, harg8.read_unread, View.readCov_unit_zero (S := S32x4) _ hz2, View.readCov_unit_zero (S := S32x4x128) _ hz3, View.ld_unit_zero (S := S32x4) hz2, View.ld_unit_zero (S := S32x4x128) hz3, View.ld_unit_zero (S := S1x32x4x128) hz4, View.ld_unit_zero (S := S1x32x512x128) hz4]
  rfl

set_option maxHeartbeats 4000000 in
/-- At a middle chunk the body leaves the new running maximum. -/
theorem sout_B_1 (hc0 : ¬cond0_0 i) (hc1 : ¬cond0_1 i) :
    sout0_B_1 c i arg2 harg2 arg3 harg3 arg4 harg4 arg5 harg5 arg6 harg6 arg7 harg7 arg8 harg8 hc0 hc1 x0 x1 x2 xs0 xs1 xs2 = mNew x0 x1 xs1 := by
  unfold sout0_B_1
  rw [View.read_writes_eq_canon _ _ _ (scover0_B_1 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero (S := S32x4) hz2]
  simp only [View.readAt_eq_ld, harg2.read_unread, harg3.read_unread, harg4.read_unread, harg6.read_unread, harg7.read_unread, harg8.read_unread, View.readCov_unit_zero (S := S32x4) _ hz2, View.readCov_unit_zero (S := S32x4x128) _ hz3, View.ld_unit_zero (S := S32x4) hz2, View.ld_unit_zero (S := S32x4x128) hz3, View.ld_unit_zero (S := S1x32x4x128) hz4, View.ld_unit_zero (S := S1x32x512x128) hz4]
  rfl

set_option maxHeartbeats 4000000 in
/-- At a middle chunk the body leaves the new running sum. -/
theorem sout_B_2 (hc0 : ¬cond0_0 i) (hc1 : ¬cond0_1 i) :
    sout0_B_2 c i arg2 harg2 arg3 harg3 arg4 harg4 arg5 harg5 arg6 harg6 arg7 harg7 arg8 harg8 hc0 hc1 x0 x1 x2 xs0 xs1 xs2 = lNew x0 x1 xs1 xs2 := by
  unfold sout0_B_2
  rw [View.read_writes_eq_canon _ _ _ (scover0_B_2 c i arg2 harg2 arg3 harg3 arg4 harg4 arg5 harg5 arg6 harg6 arg7 harg7 arg8 harg8 hc0 hc1 x0 x1 x2 xs0 xs1 xs2)]
  unfold kernelRun0_B
  dsimp only
  sl_unfold_words
  rw [View.canon_unit_zero (S := S32x4) hz2]
  simp only [View.readAt_eq_ld, harg2.read_unread, harg3.read_unread, harg4.read_unread, harg6.read_unread, harg7.read_unread, harg8.read_unread, View.readCov_unit_zero (S := S32x4) _ hz2, View.readCov_unit_zero (S := S32x4x128) _ hz3, View.ld_unit_zero (S := S32x4) hz2, View.ld_unit_zero (S := S32x4x128) hz3, View.ld_unit_zero (S := S1x32x4x128) hz4, View.ld_unit_zero (S := S1x32x512x128) hz4]
  rfl

set_option maxHeartbeats 4000000 in
/-- At a first chunk the body leaves the new accumulator. -/
theorem sout_A_0 (hc0 : cond0_0 i) (hc1 : ¬cond0_1 i) :
    sout0_A_0 c i arg2 harg2 arg3 harg3 arg4 harg4 arg5 harg5 arg6 harg6 arg7 harg7 arg8 harg8 hc0 hc1 x0 x1 x2 = accNew x0 x1 x2 k0_pay2 k0_pay4 := by
  unfold sout0_A_0
  rw [View.read_writes_eq_canon _ _ _ (scover0_A_0 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S32x4x128) hz3]
  simp only [View.readAt_eq_ld, harg2.read_unread, harg3.read_unread, harg4.read_unread, harg6.read_unread, harg7.read_unread, harg8.read_unread, View.readCov_unit_zero (S := S32x4) _ hz2, View.readCov_unit_zero (S := S32x4x128) _ hz3, View.ld_unit_zero (S := S32x4) hz2, View.ld_unit_zero (S := S32x4x128) hz3, View.ld_unit_zero (S := S1x32x4x128) hz4, View.ld_unit_zero (S := S1x32x512x128) hz4]
  rfl

set_option maxHeartbeats 4000000 in
/-- At a first chunk the body leaves the new running maximum. -/
theorem sout_A_1 (hc0 : cond0_0 i) (hc1 : ¬cond0_1 i) :
    sout0_A_1 c i arg2 harg2 arg3 harg3 arg4 harg4 arg5 harg5 arg6 harg6 arg7 harg7 arg8 harg8 hc0 hc1 x0 x1 x2 = mNew x0 x1 k0_pay2 := by
  unfold sout0_A_1
  rw [View.read_writes_eq_canon _ _ _ (scover0_A_1 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S32x4) hz2]
  simp only [View.readAt_eq_ld, harg2.read_unread, harg3.read_unread, harg4.read_unread, harg6.read_unread, harg7.read_unread, harg8.read_unread, View.readCov_unit_zero (S := S32x4) _ hz2, View.readCov_unit_zero (S := S32x4x128) _ hz3, View.ld_unit_zero (S := S32x4) hz2, View.ld_unit_zero (S := S32x4x128) hz3, View.ld_unit_zero (S := S1x32x4x128) hz4, View.ld_unit_zero (S := S1x32x512x128) hz4]
  rfl

set_option maxHeartbeats 4000000 in
/-- At a first chunk the body leaves the new running sum. -/
theorem sout_A_2 (hc0 : cond0_0 i) (hc1 : ¬cond0_1 i) :
    sout0_A_2 c i arg2 harg2 arg3 harg3 arg4 harg4 arg5 harg5 arg6 harg6 arg7 harg7 arg8 harg8 hc0 hc1 x0 x1 x2 = lNew x0 x1 k0_pay2 k0_pay3 := by
  unfold sout0_A_2
  rw [View.read_writes_eq_canon _ _ _ (scover0_A_2 c i arg2 harg2 arg3 harg3 arg4 harg4 arg5 harg5 arg6 harg6 arg7 harg7 arg8 harg8 hc0 hc1 x0 x1 x2)]
  unfold kernelRun0_A
  dsimp only
  sl_unfold_words
  rw [View.canon_cons_unit_zero (S := S32x4) hz2]
  simp only [View.readAt_eq_ld, harg2.read_unread, harg3.read_unread, harg4.read_unread, harg6.read_unread, harg7.read_unread, harg8.read_unread, View.readCov_unit_zero (S := S32x4) _ hz2, View.readCov_unit_zero (S := S32x4x128) _ hz3, View.ld_unit_zero (S := S32x4) hz2, View.ld_unit_zero (S := S32x4x128) hz3, View.ld_unit_zero (S := S1x32x4x128) hz4, View.ld_unit_zero (S := S1x32x512x128) hz4]
  rfl

set_option maxHeartbeats 4000000 in
/-- At a last chunk the body leaves the new accumulator. -/
theorem sout_C_0 (hc0 : ¬cond0_0 i) (hc1 : cond0_1 i) :
    sout0_C_0 c i arg2 harg2 arg3 harg3 arg4 harg4 arg5 harg5 arg6 harg6 arg7 harg7 arg8 harg8 hc0 hc1 x0 x1 x2 xs0 xs1 xs2 = accNew x0 x1 x2 xs1 xs0 := by
  unfold sout0_C_0
  rw [View.read_writes_eq_canon _ _ _ (scover0_C_0 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero (S := S32x4x128) hz3]
  simp only [View.readAt_eq_ld, harg2.read_unread, harg3.read_unread, harg4.read_unread, harg6.read_unread, harg7.read_unread, harg8.read_unread, View.readCov_unit_zero (S := S32x4) _ hz2, View.readCov_unit_zero (S := S32x4x128) _ hz3, View.ld_unit_zero (S := S32x4) hz2, View.ld_unit_zero (S := S32x4x128) hz3, View.ld_unit_zero (S := S1x32x4x128) hz4, View.ld_unit_zero (S := S1x32x512x128) hz4]
  rfl

set_option maxHeartbeats 4000000 in
/-- At a last chunk the body leaves the new running maximum. -/
theorem sout_C_1 (hc0 : ¬cond0_0 i) (hc1 : cond0_1 i) :
    sout0_C_1 c i arg2 harg2 arg3 harg3 arg4 harg4 arg5 harg5 arg6 harg6 arg7 harg7 arg8 harg8 hc0 hc1 x0 x1 x2 xs0 xs1 xs2 = mNew x0 x1 xs1 := by
  unfold sout0_C_1
  rw [View.read_writes_eq_canon _ _ _ (scover0_C_1 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero (S := S32x4) hz2]
  simp only [View.readAt_eq_ld, harg2.read_unread, harg3.read_unread, harg4.read_unread, harg6.read_unread, harg7.read_unread, harg8.read_unread, View.readCov_unit_zero (S := S32x4) _ hz2, View.readCov_unit_zero (S := S32x4x128) _ hz3, View.ld_unit_zero (S := S32x4) hz2, View.ld_unit_zero (S := S32x4x128) hz3, View.ld_unit_zero (S := S1x32x4x128) hz4, View.ld_unit_zero (S := S1x32x512x128) hz4]
  rfl

set_option maxHeartbeats 4000000 in
/-- At a last chunk the body leaves the new running sum. -/
theorem sout_C_2 (hc0 : ¬cond0_0 i) (hc1 : cond0_1 i) :
    sout0_C_2 c i arg2 harg2 arg3 harg3 arg4 harg4 arg5 harg5 arg6 harg6 arg7 harg7 arg8 harg8 hc0 hc1 x0 x1 x2 xs0 xs1 xs2 = lNew x0 x1 xs1 xs2 := by
  unfold sout0_C_2
  rw [View.read_writes_eq_canon _ _ _ (scover0_C_2 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero (S := S32x4) hz2]
  simp only [View.readAt_eq_ld, harg2.read_unread, harg3.read_unread, harg4.read_unread, harg6.read_unread, harg7.read_unread, harg8.read_unread, View.readCov_unit_zero (S := S32x4) _ hz2, View.readCov_unit_zero (S := S32x4x128) _ hz3, View.ld_unit_zero (S := S32x4) hz2, View.ld_unit_zero (S := S32x4x128) hz3, View.ld_unit_zero (S := S1x32x4x128) hz4, View.ld_unit_zero (S := S1x32x512x128) hz4]
  rfl

set_option maxHeartbeats 4000000 in
/-- At the last chunk the body leaves the accumulator divided by the running sum in the output block. -/
theorem out_C (hc0 : ¬cond0_0 i) (hc1 : cond0_1 i) :
    out0_C_3 c i arg2 harg2 arg3 harg3 arg4 harg4 arg5 harg5 arg6 harg6 arg7 harg7 arg8 harg8 hc0 hc1 x0 x1 x2 xs0 xs1 xs2 = k0_pay1 (accNew x0 x1 x2 xs1 xs0) (lNew x0 x1 xs1 xs2) := by
  unfold out0_C_3
  rw [View.read_writes_eq_canon _ _ _ (cover0_C_3 c i arg2 harg2 arg3 harg3 arg4 harg4 arg5 harg5 arg6 harg6 arg7 harg7 arg8 harg8 hc0 hc1 x0 x1 x2 xs0 xs1 xs2)]
  unfold kernelRun0_C
  dsimp only
  sl_unfold_words
  rw [View.canon_unit_zero (S := S1x32x4x128) hz4]
  simp only [View.readAt_eq_ld, harg2.read_unread, harg3.read_unread, harg4.read_unread, harg6.read_unread, harg7.read_unread, harg8.read_unread, View.readCov_unit_zero (S := S32x4) _ hz2, View.readCov_unit_zero (S := S32x4x128) _ hz3, View.ld_unit_zero (S := S32x4) hz2, View.ld_unit_zero (S := S32x4x128) hz3, View.ld_unit_zero (S := S1x32x4x128) hz4, View.ld_unit_zero (S := S1x32x512x128) hz4]
  rfl

end

end Cert.KernelIdeal.Step

end
-- ==== Proof.Math.lean ====
/- Facts about real numbers and extended reals that both sides of the proof share: the range of finitely many reals, the
   range quantiser, the running state of a softmax taken over keys in several rounds, and its final value. -/
module

public import Idealize.ShloMosaic.Lib.Pointwise
public import Idealize.ShloMosaic.Lib.KernelVsHost

@[expose] public section

noncomputable section

namespace Cert.Attn

open Idealize.ShloMosaic

/-! ### Sums and ranges -/

/-- A finite sum of reals, read as extended reals, is the sum of the readings. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

section Range
variable {ι : Type*} [Fintype ι] [Nonempty ι]

/-- The least of finitely many reals. -/
def lo (g : ι → ℝ) : ℝ := Finset.univ.inf' Finset.univ_nonempty g

/-- The greatest of finitely many reals. -/
def hi (g : ι → ℝ) : ℝ := Finset.univ.sup' Finset.univ_nonempty g

/-- The least is below every one. -/
theorem lo_le (g : ι → ℝ) (i : ι) : lo g ≤ g i := Finset.inf'_le _ (Finset.mem_univ i)

/-- The greatest is above every one. -/
theorem le_hi (g : ι → ℝ) (i : ι) : g i ≤ hi g := Finset.le_sup' _ (Finset.mem_univ i)

/-- The least is one of them. -/
theorem exists_lo (g : ι → ℝ) : ∃ i, lo g = g i := by
  obtain ⟨i, _, h⟩ := Finset.exists_mem_eq_inf' (Finset.univ_nonempty (α := ι)) g
  exact ⟨i, h⟩

/-- The greatest is one of them. -/
theorem exists_hi (g : ι → ℝ) : ∃ i, hi g = g i := by
  obtain ⟨i, _, h⟩ := Finset.exists_mem_eq_sup' (Finset.univ_nonempty (α := ι)) g
  exact ⟨i, h⟩

/-- An extended real below all of the family and equal to one member is the least. -/
theorem eq_lo (x : EReal) (g : ι → ℝ) (h : ∀ i, x ≤ (g i : EReal)) (e : ∃ i, x = (g i : EReal)) :
    x = (lo g : EReal) := by
  obtain ⟨i, hi⟩ := e
  obtain ⟨k, hk⟩ := exists_lo g
  apply le_antisymm
  · rw [hk]; exact h k
  · rw [hi]; exact EReal.coe_le_coe_iff.2 (lo_le g i)

/-- An extended real above all of the family and equal to one member is the greatest. -/
theorem eq_hi (x : EReal) (g : ι → ℝ) (h : ∀ i, (g i : EReal) ≤ x) (e : ∃ i, x = (g i : EReal)) :
    x = (hi g : EReal) := by
  obtain ⟨i, hi'⟩ := e
  obtain ⟨k, hk⟩ := exists_hi g
  apply le_antisymm
  · rw [hi']; exact EReal.coe_le_coe_iff.2 (le_hi g i)
  · rw [hk]; exact h k

/-- Folding `min` from `⊤` over a family of reals gives the least. -/
theorem fold_min_coe (g : ι → ℝ) :
    Finset.univ.fold min (⊤ : EReal) (fun i => (g i : EReal)) = (lo g : EReal) := by
  have h : ∀ i, Finset.univ.fold min (⊤ : EReal) (fun i => (g i : EReal)) ≤ (g i : EReal) := fun i =>
    (Finset.fold_min_le _).2 (Or.inr ⟨i, Finset.mem_univ i, le_rfl⟩)
  apply le_antisymm
  · obtain ⟨k, hk⟩ := exists_lo g
    rw [hk]; exact h k
  · exact (Finset.le_fold_min _).2 ⟨le_top, fun i _ => EReal.coe_le_coe_iff.2 (lo_le g i)⟩

/-- Folding `max` from `⊥` over a family of reals gives the greatest. -/
theorem fold_max_coe (g : ι → ℝ) :
    Finset.univ.fold max (⊥ : EReal) (fun i => (g i : EReal)) = (hi g : EReal) := by
  have h : ∀ i, (g i : EReal) ≤ Finset.univ.fold max (⊥ : EReal) (fun i => (g i : EReal)) := fun i =>
    (Finset.le_fold_max _).2 (Or.inr ⟨i, Finset.mem_univ i, le_rfl⟩)
  apply le_antisymm
  · exact (Finset.fold_max_le _).2 ⟨bot_le, fun i _ => EReal.coe_le_coe_iff.2 (le_hi g i)⟩
  · obtain ⟨k, hk⟩ := exists_hi g
    rw [hk]; exact h k

end Range

/-- The least over pairs may be taken one coordinate at a time. -/
theorem lo_prod {α β : Type*} [Fintype α] [Nonempty α] [Fintype β] [Nonempty β] (g : α → β → ℝ) :
    lo (fun b => lo (fun a => g a b)) = lo (fun p : α × β => g p.1 p.2) := by
  apply le_antisymm
  · obtain ⟨p, hp⟩ := exists_lo (fun p : α × β => g p.1 p.2)
    rw [hp]; exact (lo_le _ p.2).trans (lo_le (fun a => g a p.2) p.1)
  · obtain ⟨b, hb⟩ := exists_lo (fun b => lo (fun a => g a b))
    obtain ⟨a, ha⟩ := exists_lo (fun a => g a b)
    rw [hb, ha]; exact lo_le (fun p : α × β => g p.1 p.2) (a, b)

/-- The greatest over pairs may be taken one coordinate at a time. -/
theorem hi_prod {α β : Type*} [Fintype α] [Nonempty α] [Fintype β] [Nonempty β] (g : α → β → ℝ) :
    hi (fun b => hi (fun a => g a b)) = hi (fun p : α × β => g p.1 p.2) := by
  apply le_antisymm
  · obtain ⟨b, hb⟩ := exists_hi (fun b => hi (fun a => g a b))
    obtain ⟨a, ha⟩ := exists_hi (fun a => g a b)
    rw [hb, ha]; exact le_hi (fun p : α × β => g p.1 p.2) (a, b)
  · obtain ⟨p, hp⟩ := exists_hi (fun p : α × β => g p.1 p.2)
    rw [hp]; exact (le_hi (fun a => g a p.2) p.1).trans (le_hi (fun b => hi (fun a => g a b)) p.2)

/-- The running `min` of the first `n + 1` terms of a sequence, taken in order. -/
def chainMin (f : ℕ → EReal) : ℕ → EReal
  | 0 => f 0
  | n + 1 => min (chainMin f n) (f (n + 1))

/-- The running `max` of the first `n + 1` terms of a sequence, taken in order. -/
def chainMax (f : ℕ → EReal) : ℕ → EReal
  | 0 => f 0
  | n + 1 => max (chainMax f n) (f (n + 1))

/-- The running `min` is below each of its terms. -/
theorem chainMin_le (f : ℕ → EReal) (n k : ℕ) (h : k ≤ n) : chainMin f n ≤ f k := by
  induction n with
  | zero => rw [Nat.le_zero.1 h]; exact le_rfl
  | succ n ih =>
    rcases Nat.lt_or_ge n k with hk | hk
    · rw [show k = n + 1 by omega]; exact min_le_right _ _
    · exact (min_le_left _ _).trans (ih hk)

/-- The running `max` is above each of its terms. -/
theorem le_chainMax (f : ℕ → EReal) (n k : ℕ) (h : k ≤ n) : f k ≤ chainMax f n := by
  induction n with
  | zero => rw [Nat.le_zero.1 h]; exact le_rfl
  | succ n ih =>
    rcases Nat.lt_or_ge n k with hk | hk
    · rw [show k = n + 1 by omega]; exact le_max_right _ _
    · exact (ih hk).trans (le_max_left _ _)

/-- The running `min` is one of its terms. -/
theorem exists_chainMin (f : ℕ → EReal) (n : ℕ) : ∃ k ≤ n, chainMin f n = f k := by
  induction n with
  | zero => exact ⟨0, le_rfl, rfl⟩
  | succ n ih =>
    obtain ⟨k, hk, e⟩ := ih
    rcases min_choice (chainMin f n) (f (n + 1)) with h | h
    · exact ⟨k, by omega, h.trans e⟩
    · exact ⟨n + 1, le_rfl, h⟩

/-- The running `max` is one of its terms. -/
theorem exists_chainMax (f : ℕ → EReal) (n : ℕ) : ∃ k ≤ n, chainMax f n = f k := by
  induction n with
  | zero => exact ⟨0, le_rfl, rfl⟩
  | succ n ih =>
    obtain ⟨k, hk, e⟩ := ih
    rcases max_choice (chainMax f n) (f (n + 1)) with h | h
    · exact ⟨k, by omega, h.trans e⟩
    · exact ⟨n + 1, le_rfl, h⟩

/-- The running `min` through all `n + 1` members of a family is its least. -/
theorem chainMin_coe (n : ℕ) (g : Fin (n + 1) → ℝ) :
    chainMin (fun k => (g (Fin.ofNat (n + 1) k) : EReal)) n = (lo g : EReal) := by
  apply eq_lo
  · intro i
    have h := chainMin_le (fun k => (g (Fin.ofNat (n + 1) k) : EReal)) n i (by omega)
    have e : Fin.ofNat (n + 1) i.val = i := Fin.ext (Nat.mod_eq_of_lt i.isLt)
    rwa [e] at h
  · obtain ⟨k, _, e⟩ := exists_chainMin (fun k => (g (Fin.ofNat (n + 1) k) : EReal)) n
    exact ⟨_, e⟩

/-- The running `max` through all `n + 1` members of a family is its greatest. -/
theorem chainMax_coe (n : ℕ) (g : Fin (n + 1) → ℝ) :
    chainMax (fun k => (g (Fin.ofNat (n + 1) k) : EReal)) n = (hi g : EReal) := by
  apply eq_hi
  · intro i
    have h := le_chainMax (fun k => (g (Fin.ofNat (n + 1) k) : EReal)) n i (by omega)
    have e : Fin.ofNat (n + 1) i.val = i := Fin.ext (Nat.mod_eq_of_lt i.isLt)
    rwa [e] at h
  · obtain ⟨k, _, e⟩ := exists_chainMax (fun k => (g (Fin.ofNat (n + 1) k) : EReal)) n
    exact ⟨_, e⟩

/-! ### The quantiser -/

/-- The step of a range quantiser with `n` steps between `a` and `b`; one where the range is a single point. -/
def step (n a b : ℝ) : ℝ := if (b - a) / n = 0 then 1 else (b - a) / n

/-- The integer code of `x` in the range `a … b` with `n` steps. -/
def code (n a b x : ℝ) : ℝ := (Ideal.roundHalfEven ((x - a) / step n a b) : ℝ)

/-- `x` quantised to the range `a … b` with `n` steps and read back. -/
def deq (n a b x : ℝ) : ℝ := code n a b x * step n a b + a

/-- The step is not zero. -/
theorem step_ne_zero (n a b : ℝ) : step n a b ≠ 0 := by
  unfold step; split_ifs with h
  · exact one_ne_zero
  · exact h

/-- Rounding keeps a nonnegative number nonnegative. -/
theorem round_nonneg (r : ℝ) (h : 0 ≤ r) : 0 ≤ Ideal.roundHalfEven r := by
  have h0 : 0 ≤ ⌊r⌋ := Int.floor_nonneg.2 h
  unfold Ideal.roundHalfEven; dsimp only; split_ifs <;> omega

/-- Rounding keeps a number below an integer bound. -/
theorem round_le (r : ℝ) (N : ℤ) (h : r ≤ N) : Ideal.roundHalfEven r ≤ N := by
  have h0 : ⌊r⌋ ≤ N := by
    have := (Int.floor_le r).trans h
    exact_mod_cast this
  rcases h0.lt_or_eq with h1 | h1
  · unfold Ideal.roundHalfEven; dsimp only; split_ifs <;> omega
  · have h2 : r - (⌊r⌋ : ℝ) < 1 / 2 := by rw [h1]; linarith
    unfold Ideal.roundHalfEven; dsimp only; rw [if_pos h2]; exact h0

/-- The code of a number inside the range lies between `0` and the number of steps. -/
theorem code_mem (N : ℤ) (hN : 0 < N) (a b x : ℝ) (h1 : a ≤ x) (h2 : x ≤ b) :
    0 ≤ code N a b x ∧ code N a b x ≤ N := by
  have hN' : (0 : ℝ) < N := by exact_mod_cast hN
  have key : 0 ≤ (x - a) / step N a b ∧ (x - a) / step N a b ≤ N := by
    unfold step
    split_ifs with h
    · have hb : b - a = 0 := by
        rcases div_eq_zero_iff.1 h with h | h
        · exact h
        · exact absurd h hN'.ne'
      constructor <;> rw [div_one] <;> linarith
    · have hs : 0 < (b - a) / N := lt_of_le_of_ne (div_nonneg (by linarith) hN'.le) (Ne.symm h)
      refine ⟨div_nonneg (by linarith) hs.le, ?_⟩
      rw [div_le_iff₀ hs, mul_div_cancel₀ _ hN'.ne']
      linarith
  unfold code
  exact ⟨by exact_mod_cast round_nonneg _ key.1, by exact_mod_cast round_le _ N key.2⟩

/-- Clipping the code of a number inside the range changes nothing. -/
theorem clip_code (N : ℤ) (hN : 0 < N) (a b x : ℝ) (h1 : a ≤ x) (h2 : x ≤ b) :
    min ((N : ℝ) : EReal) (max 0 ((code N a b x : ℝ) : EReal)) = (code N a b x : EReal) := by
  obtain ⟨h3, h4⟩ := code_mem N hN a b x h1 h2
  rw [max_eq_right (by exact_mod_cast h3), min_eq_right (by exact_mod_cast h4)]

/-- The quotient of two reals, the second not zero, is the real quotient. -/
theorem div_coe_coe (x y : ℝ) (h : y ≠ 0) : Ideal.div (x : EReal) (y : EReal) = ((x / y : ℝ) : EReal) := by
  rw [Ideal.div_coe h, ← EReal.coe_mul, mul_one_div]

/-- The step as computed by multiplying the range with the reciprocal of the number of steps. -/
theorem step_mul (n a b : ℝ) :
    (if ((b : EReal) - (a : EReal)) * ((1 / n : ℝ) : EReal) = 0 then (1 : EReal)
      else ((b : EReal) - (a : EReal)) * ((1 / n : ℝ) : EReal)) = (step n a b : EReal) := by
  have e : ((b : EReal) - (a : EReal)) * ((1 / n : ℝ) : EReal) = (((b - a) / n : ℝ) : EReal) := by
    rw [← EReal.coe_sub, ← EReal.coe_mul, mul_one_div]
  rw [e]; unfold step
  by_cases h : (b - a) / n = 0
  · rw [if_pos (by exact_mod_cast h), if_pos h, EReal.coe_one]
  · rw [if_neg (by exact_mod_cast h), if_neg h]

/-- The step as computed by dividing the range by the number of steps. -/
theorem step_div (n a b : ℝ) (hn : n ≠ 0) :
    (if Ideal.div ((b : EReal) - (a : EReal)) (n : EReal) = 0 then (1 : EReal)
      else Ideal.div ((b : EReal) - (a : EReal)) (n : EReal)) = (step n a b : EReal) := by
  rw [← step_mul, Ideal.div_coe hn]

/-- The code as computed from the reciprocal of the step and a shifted origin. -/
theorem code_mul (n a b x : ℝ) :
    Ideal.liftRound Ideal.roundHalfEven ((x : EReal) * Ideal.div 1 (step n a b : EReal)
      + (0 - (a : EReal)) * Ideal.div 1 (step n a b : EReal)) = (code n a b x : EReal) := by
  have h := step_ne_zero n a b
  rw [← EReal.coe_one, ← EReal.coe_zero, div_coe_coe _ _ h, ← EReal.coe_sub, ← EReal.coe_mul, ← EReal.coe_mul,
    ← EReal.coe_add, Ideal.liftRound_coe]
  unfold code
  congr 3
  field_simp
  ring

/-- The code as computed by dividing the distance to the range's lower end by the step. -/
theorem code_div (n a b x : ℝ) :
    Ideal.liftRound Ideal.roundHalfEven (Ideal.div ((x : EReal) - (a : EReal)) (step n a b : EReal))
      = (code n a b x : EReal) := by
  rw [← EReal.coe_sub, div_coe_coe _ _ (step_ne_zero n a b), Ideal.liftRound_coe]
  rfl

/-- Reading a code back. -/
theorem deq_coe (n a b x : ℝ) :
    (code n a b x : EReal) * (step n a b : EReal) + (a : EReal) = (deq n a b x : EReal) := by
  rw [← EReal.coe_mul, ← EReal.coe_add]; rfl

/-! ### The softmax state -/

/-- The running state of a softmax over the keys seen so far: the greatest score `m`, the weight `l` and the weighted sum
`a`, both scaled by `exp (-m)`. `L` is the unscaled weight and `A` the unscaled weighted sum. Either no key has been seen
or `m` is a real. -/
def St (m l a : EReal) (L A : ℝ) : Prop :=
  (m = ⊥ ∧ l = 0 ∧ a = 0 ∧ L = 0 ∧ A = 0)
    ∨ ∃ M : ℝ, m = (M : EReal) ∧ l = ((Real.exp (-M) * L : ℝ) : EReal) ∧ a = ((Real.exp (-M) * A : ℝ) : EReal)

/-- The state before any key. -/
theorem St.init : St ⊥ 0 0 0 0 := Or.inl ⟨rfl, rfl, rfl, rfl, rfl⟩

/-- One round over the keys `ι` with scores `s`, steps `v`, lower ends `b` and codes `q`: the new greatest score, the
rescaled weight and the rescaled weighted sum — computed as a centred part and an offset part — are the state with the
round's weights and weighted values added. -/
theorem St.next {ι : Type*} [Fintype ι] {m l a : EReal} {L A : ℝ} (h : St m l a L A) (mx : ℝ) (s v b q : ι → ℝ)
    (c : ℝ) :
    St (max m (mx : EReal))
      (l * Ideal.exp (m - max m (mx : EReal)) + ∑ k, Ideal.exp ((s k : EReal) - max m (mx : EReal)))
      (a * Ideal.exp (m - max m (mx : EReal))
        + ∑ k, Ideal.exp ((s k : EReal) - max m (mx : EReal)) * (v k : EReal) * ((q k - c : ℝ) : EReal)
        + ∑ k, Ideal.exp ((s k : EReal) - max m (mx : EReal)) * ((b k : EReal) + (c : EReal) * (v k : EReal)))
      (L + ∑ k, Real.exp (s k)) (A + ∑ k, Real.exp (s k) * (q k * v k + b k)) := by
  have hw : ∀ M' : ℝ, ∀ k, Ideal.exp ((s k : EReal) - (M' : EReal)) = ((Real.exp (-M') * Real.exp (s k) : ℝ) : EReal) := by
    intro M' k
    rw [← EReal.coe_sub, Ideal.exp_coe, ← Real.exp_add, neg_add_eq_sub]
  have hl : ∀ M' : ℝ, ∑ k, Ideal.exp ((s k : EReal) - (M' : EReal)) = ((Real.exp (-M') * ∑ k, Real.exp (s k) : ℝ) : EReal) := by
    intro M'
    rw [Finset.mul_sum, coe_sum]
    exact Finset.sum_congr rfl fun k _ => hw M' k
  have ha : ∀ M' : ℝ, ∀ x : ℝ, (x : EReal)
        + ∑ k, Ideal.exp ((s k : EReal) - (M' : EReal)) * (v k : EReal) * ((q k - c : ℝ) : EReal)
        + ∑ k, Ideal.exp ((s k : EReal) - (M' : EReal)) * ((b k : EReal) + (c : EReal) * (v k : EReal))
      = ((x + Real.exp (-M') * ∑ k, Real.exp (s k) * (q k * v k + b k) : ℝ) : EReal) := by
    intro M' x
    have h1 : ∑ k, Ideal.exp ((s k : EReal) - (M' : EReal)) * (v k : EReal) * ((q k - c : ℝ) : EReal)
        = ((∑ k, Real.exp (-M') * Real.exp (s k) * v k * (q k - c) : ℝ) : EReal) := by
      rw [coe_sum]
      exact Finset.sum_congr rfl fun k _ => by rw [hw, ← EReal.coe_mul, ← EReal.coe_mul]
    have h2 : ∑ k, Ideal.exp ((s k : EReal) - (M' : EReal)) * ((b k : EReal) + (c : EReal) * (v k : EReal))
        = ((∑ k, Real.exp (-M') * Real.exp (s k) * (b k + c * v k) : ℝ) : EReal) := by
      rw [coe_sum]
      exact Finset.sum_congr rfl fun k _ => by
        rw [hw, ← EReal.coe_mul, ← EReal.coe_add, ← EReal.coe_mul]
    rw [h1, h2, ← EReal.coe_add, ← EReal.coe_add, add_assoc, ← Finset.sum_add_distrib, Finset.mul_sum]
    congr 2
    exact Finset.sum_congr rfl fun k _ => by ring
  right
  rcases h with ⟨rfl, rfl, rfl, rfl, rfl⟩ | ⟨M, rfl, rfl, rfl⟩
  · refine ⟨mx, max_eq_right bot_le, ?_, ?_⟩
    · rw [max_eq_right bot_le, zero_mul, zero_add, hl, zero_add]
    · rw [max_eq_right bot_le, zero_mul, ← EReal.coe_zero, ha, zero_add, zero_add]
  · have hm : max (M : EReal) (mx : EReal) = ((max M mx : ℝ) : EReal) :=
      (EReal.coe_strictMono.monotone.map_max).symm
    rw [hm]
    have hal : Ideal.exp ((M : EReal) - ((max M mx : ℝ) : EReal)) = ((Real.exp (M - max M mx) : ℝ) : EReal) := by
      rw [← EReal.coe_sub, Ideal.exp_coe]
    have hcancel : ∀ x : ℝ, Real.exp (-M) * x * Real.exp (M - max M mx) = Real.exp (-max M mx) * x := by
      intro x
      have : Real.exp (-max M mx) = Real.exp (-M) * Real.exp (M - max M mx) := by
        rw [← Real.exp_add]; congr 1; ring
      rw [this]; ring
    refine ⟨max M mx, rfl, ?_, ?_⟩
    · rw [hal, hl, ← EReal.coe_mul, ← EReal.coe_add, hcancel, mul_add]
    · rw [hal, ← EReal.coe_mul, ha, hcancel, mul_add]

/-- Once a key has been seen, the weighted sum over the weight is the unscaled quotient. -/
theorem St.quot {m l a : EReal} {L A : ℝ} (h : St m l a L A) (hL : 0 < L) :
    Ideal.div a l = ((A / L : ℝ) : EReal) := by
  rcases h with ⟨_, _, _, h, _⟩ | ⟨M, rfl, rfl, rfl⟩
  · exact absurd h hL.ne'
  · rw [div_coe_coe _ _ (mul_pos (Real.exp_pos _) hL).ne', mul_div_mul_left _ _ (Real.exp_ne_zero _)]

/-- The softmax average of the values `w` under the scores `s`. -/
def attn {ι : Type*} [Fintype ι] (s w : ι → ℝ) : ℝ := (∑ k, Real.exp (s k) * w k) / ∑ k, Real.exp (s k)

/-- Normalising the shifted exponentials first and then averaging gives the softmax average, for any real shift. -/
theorem sum_softmax {ι : Type*} [Fintype ι] [Nonempty ι] (s w : ι → ℝ) (M : ℝ) :
    ∑ k, Ideal.div (Ideal.exp ((s k : EReal) - (M : EReal))) (∑ j, Ideal.exp ((s j : EReal) - (M : EReal))) * (w k : EReal)
      = (attn s w : EReal) := by
  have hw : ∀ k, Ideal.exp ((s k : EReal) - (M : EReal)) = ((Real.exp (-M) * Real.exp (s k) : ℝ) : EReal) := by
    intro k
    rw [← EReal.coe_sub, Ideal.exp_coe, ← Real.exp_add, neg_add_eq_sub]
  have hS : 0 < ∑ k, Real.exp (s k) := Finset.sum_pos (fun k _ => Real.exp_pos _) Finset.univ_nonempty
  have hl : ∑ k, Ideal.exp ((s k : EReal) - (M : EReal)) = ((Real.exp (-M) * ∑ k, Real.exp (s k) : ℝ) : EReal) := by
    rw [Finset.mul_sum, coe_sum]
    exact Finset.sum_congr rfl fun k _ => hw k
  rw [hl, attn, Finset.sum_div, coe_sum]
  refine Finset.sum_congr rfl fun k _ => ?_
  rw [hw, div_coe_coe _ _ (mul_pos (Real.exp_pos _) hS).ne', mul_div_mul_left _ _ (Real.exp_ne_zero _), ← EReal.coe_mul]
  congr 1
  ring

end Cert.Attn

end
-- ==== Proof.Spec.lean ====
/- The real-valued function that both programs compute over finite inputs: attention of a few query rows over quantised keys
   and quantised values. -/
module

public import proofs.«01_k».proof.Proof.Math

@[expose] public section

noncomputable section

namespace Cert.Attn

/-- A key of head `h`, quantised to four levels over the range that the heads `K` span, and read back. -/
def keyDeq (K : Fin 32 → ℝ) (h : Fin 32) : ℝ := deq 3 (lo K) (hi K) (K h)

/-- A value, quantised to sixteen levels over the range that heads and channels `W` span, and read back. -/
def valDeq (W : Fin 32 × Fin 128 → ℝ) (h : Fin 32) (d : Fin 128) : ℝ := deq 15 (lo W) (hi W) (W (h, d))

/-- The score of the query `q` of head `h` against one row `K` of keys. -/
def rowScore (q : Fin 128 → ℝ) (K : Fin 32 → Fin 128 → ℝ) (h : Fin 32) : ℝ :=
  (∑ d, q d * keyDeq (fun h => K h d) h) * (Real.sqrt 128)⁻¹

/-- The result for batch `b`, head `h`, query row `g`, channel `d`. -/
def result (Q : Fin 8 → Fin 32 → Fin 4 → Fin 128 → ℝ) (K V : Fin 8 → Fin 32 → Fin 2048 → Fin 128 → ℝ)
    (b : Fin 8) (h : Fin 32) (g : Fin 4) (d : Fin 128) : ℝ :=
  attn (fun n => rowScore (Q b h g) (fun h d => K b h n d) h) (fun n => valDeq (fun p => V b p.1 n p.2) h d)

end Cert.Attn

end
-- ==== Proof.Lits.lean ====
/- The numbers that the programs' literal constants denote. -/
module

public import Idealize.ShloMosaic.Lib.Pointwise

@[expose] public section

noncomputable section

namespace Cert.Attn

open Idealize.ShloMosaic

/-- The literal of positive infinity. -/
theorem lit_top : Ideal.ofBits .f32 0x7F800000#32 = ⊤ := by
  simp [Ideal.ofBits, Ideal.ieee]

/-- The literal of negative infinity. -/
theorem lit_bot : Ideal.ofBits .f32 0xFF800000#32 = ⊥ := by
  simp [Ideal.ofBits, Ideal.ieee]

/-- The literal `1.0`. -/
theorem lit_one : Ideal.ofBits .f32 0x3F800000#32 = 1 := by
  rw [← EReal.coe_one]
  simp [Ideal.ofBits, Ideal.ieee, -EReal.coe_mul]; norm_num

/-- The literal `3.0`. -/
theorem lit_three : Ideal.ofBits .f32 0x40400000#32 = ((3 : ℝ) : EReal) := by
  simp [Ideal.ofBits, Ideal.ieee, -EReal.coe_mul]; norm_num

/-- The literal `15.0`. -/
theorem lit_fifteen : Ideal.ofBits .f32 0x41700000#32 = ((15 : ℝ) : EReal) := by
  simp [Ideal.ofBits, Ideal.ieee, -EReal.coe_mul]; norm_num

/-- The literal `7.5`. -/
theorem lit_half : Ideal.ofBits .f32 0x40F00000#32 = ((7.5 : ℝ) : EReal) := by
  simp [Ideal.ofBits, Ideal.ieee, -EReal.coe_mul]; norm_num

/-- The literal `128.0`. -/
theorem lit_dim : Ideal.ofBits .f32 0x43000000#32 = ((128 : ℝ) : EReal) := by
  simp [Ideal.ofBits, Ideal.ieee, -EReal.coe_mul]; norm_num

end Cert.Attn

end
-- ==== Proof.Read.lean ====
/- What one chunk of keys and values leaves in the carried buffers, read at an index over real blocks: the running softmax
   state moves on by the chunk's quantised scores and values. -/
module

public import proofs.«01_k».proof.Proof.Step
public import proofs.«01_k».proof.Proof.Spec
public import proofs.«01_k».proof.Proof.Lits

@[expose] public section

set_option maxRecDepth 16384

noncomputable section

namespace Cert.KernelIdeal.Read

open Idealize.ShloMosaic Idealize.ShloMosaic.TcCoe Idealize.SL.Sem
open Cert.KernelIdeal Cert.KernelIdeal.Gen Cert.KernelIdeal.Step Cert.Attn

/-- The named constant `third`. -/
theorem third_eq : Named.named (F := Ideal) Cert.KernelIdeal.κ "third" (φ := .f32) 0x3EAAAAAB#32 = ((1 / 3 : ℝ) : EReal) :=
  IdealRules.named_const.ideal_named_scalar _ _ _ _ rfl

/-- The named constant `fifteenth`. -/
theorem fifteenth_eq :
    Named.named (F := Ideal) Cert.KernelIdeal.κ "fifteenth" (φ := .f32) 0x3D888889#32 = ((1 / 15 : ℝ) : EReal) :=
  IdealRules.named_const.ideal_named_scalar _ _ _ _ rfl

/-- The named constant `rsqrt_d`. -/
theorem rsqrt_eq :
    Named.named (F := Ideal) Cert.KernelIdeal.κ "rsqrt_d" (φ := .f32) 0x3DB504F3#32 = (((Real.sqrt 128)⁻¹ : ℝ) : EReal) :=
  IdealRules.named_const.ideal_named_scalar _ _ _ _ rfl

section Key

variable (x1 : Vec Ideal S1x32x512x128 .f32) (K : Fin 32 → Fin 512 → Fin 128 → ℝ)
  (h1 : ∀ h r d, x1 (ix4 0 h r d) = (K h r d : EReal))
include h1

/-- The least key over the heads, at one row and channel. -/
theorem kMin_apply (r : Fin 512) (d : Fin 128) :
    k0_pay43 (F := Ideal) (k0_pay5 x1) (k0_pay32 (k0_pay5 x1) (k0_pay15 x1) (k0_pay17 x1)) (k0_pay34 (k0_pay5 x1)) (ix2 r d)
      = (lo (fun h => K h r d) : EReal) := by
  have e : k0_pay43 (F := Ideal) (k0_pay5 x1) (k0_pay32 (k0_pay5 x1) (k0_pay15 x1) (k0_pay17 x1)) (k0_pay34 (k0_pay5 x1))
      (ix2 r d) = chainMin (fun h => x1 (ix4 0 (Fin.ofNat 32 h) r d)) 31 := by
    unfold_payloads
    pointwise
    rfl
  rw [e]
  simp only [h1]
  exact chainMin_coe 31 (fun h => K h r d)

/-- The quantiser step of one row and channel of the keys. -/
theorem kStep_apply (r : Fin 512) (d : Fin 128) :
    k0_pay44 (F := Ideal) (k0_pay5 x1) (k0_pay32 (k0_pay5 x1) (k0_pay15 x1) (k0_pay17 x1))
      (k0_pay33 (k0_pay5 x1) (k0_pay16 x1) (k0_pay17 x1)) (k0_pay34 (k0_pay5 x1)) (ix2 r d)
      = (step 3 (lo (fun h => K h r d)) (hi (fun h => K h r d)) : EReal) := by
  have e : k0_pay44 (F := Ideal) (k0_pay5 x1) (k0_pay32 (k0_pay5 x1) (k0_pay15 x1) (k0_pay17 x1))
      (k0_pay33 (k0_pay5 x1) (k0_pay16 x1) (k0_pay17 x1)) (k0_pay34 (k0_pay5 x1)) (ix2 r d)
      = if (chainMax (fun h => x1 (ix4 0 (Fin.ofNat 32 h) r d)) 31 - chainMin (fun h => x1 (ix4 0 (Fin.ofNat 32 h) r d)) 31)
            * Named.named (F := Ideal) Cert.KernelIdeal.κ "third" (φ := .f32) 0x3EAAAAAB#32 = 0 then (1 : EReal)
        else (chainMax (fun h => x1 (ix4 0 (Fin.ofNat 32 h) r d)) 31 - chainMin (fun h => x1 (ix4 0 (Fin.ofNat 32 h) r d)) 31)
            * Named.named (F := Ideal) Cert.KernelIdeal.κ "third" (φ := .f32) 0x3EAAAAAB#32 := by
    unfold_payloads
    pointwise
    rfl
  rw [e, third_eq]
  simp only [h1]
  rw [chainMin_coe 31 (fun h => K h r d), chainMax_coe 31 (fun h => K h r d)]
  exact step_mul 3 _ _

/-- The quantised key block. -/
theorem kdq_apply (h : Fin 32) (r : Fin 512) (d : Fin 128) :
    kdq (F := Ideal) x1 (ix3 h r d) = (keyDeq (fun h => K h r d) h : EReal) := by
  have hm := kMin_apply x1 K h1 r d
  have hs := kStep_apply x1 K h1 r d
  have hx : k0_pay5 (F := Ideal) x1 (ix3 h r d) = (K h r d : EReal) := by
    unfold k0_pay5
    pointwise
    exact h1 h r d
  unfold kdq k0_pay47 k0_pay45 k0_pay46
  generalize k0_pay44 (F := Ideal) (k0_pay5 x1) (k0_pay32 (k0_pay5 x1) (k0_pay15 x1) (k0_pay17 x1))
      (k0_pay33 (k0_pay5 x1) (k0_pay16 x1) (k0_pay17 x1)) (k0_pay34 (k0_pay5 x1)) = s at hs ⊢
  generalize k0_pay43 (F := Ideal) (k0_pay5 x1) (k0_pay32 (k0_pay5 x1) (k0_pay15 x1) (k0_pay17 x1)) (k0_pay34 (k0_pay5 x1))
    = m at hm ⊢
  generalize k0_pay5 (F := Ideal) x1 = x at hx ⊢
  pointwise
  rw [hm, hs, hx, code_mul]
  exact deq_coe _ _ _ _

end Key

section Val

variable (x2 : Vec Ideal S1x32x512x128 .f32) (W : Fin 32 → Fin 512 → Fin 128 → ℝ)
  (h2 : ∀ h r d, x2 (ix4 0 h r d) = (W h r d : EReal))
include h2

/-- The least value of one row, over heads and channels. -/
theorem vMin_apply (r : Fin 512) :
    k0_pay83 (F := Ideal) (k0_pay6 x2) (vlo x2) (ix1 r) = (lo (fun p : Fin 32 × Fin 128 => W p.1 r p.2) : EReal) := by
  have e : k0_pay83 (F := Ideal) (k0_pay6 x2) (vlo x2) (ix1 r)
      = Finset.univ.fold min (Ideal.ofBits .f32 0x7F800000#32)
          (fun d : Fin 128 => chainMin (fun h => x2 (ix4 0 (Fin.ofNat 32 h) r d)) 31) := by
    unfold vlo
    unfold_payloads
    pointwise
    rfl
  have hc : ∀ d : Fin 128, chainMin (fun h => (W (Fin.ofNat 32 h) r d : EReal)) 31 = (lo (fun h => W h r d) : EReal) := fun d =>
    chainMin_coe 31 (fun h => W h r d)
  rw [e, lit_top]
  simp only [h2, hc]
  rw [fold_min_coe, lo_prod]

/-- The quantiser step of one row of the values. -/
theorem vStep_apply (r : Fin 512) :
    k0_pay84 (F := Ideal) (k0_pay6 x2) (vlo x2) (vhi x2) (ix1 r)
      = (step 15 (lo (fun p : Fin 32 × Fin 128 => W p.1 r p.2)) (hi (fun p : Fin 32 × Fin 128 => W p.1 r p.2)) : EReal) := by
  have hm := vMin_apply x2 W h2 r
  have hc : ∀ d : Fin 128, chainMax (fun h => (W (Fin.ofNat 32 h) r d : EReal)) 31 = (hi (fun h => W h r d) : EReal) := fun d =>
    chainMax_coe 31 (fun h => W h r d)
  have hM : ∀ d : Fin 128, max (max (max (vhi (F := Ideal) x2 (ix2 r d)) (k0_pay80 (F := Ideal) (k0_pay6 x2) (ix2 r d)))
      (k0_pay81 (F := Ideal) (k0_pay6 x2) (ix2 r d))) (k0_pay82 (F := Ideal) (k0_pay6 x2) (ix2 r d))
      = (hi (fun h => W h r d) : EReal) := by
    intro d
    rw [← hc]
    simp only [← h2]
    unfold vhi
    unfold_payloads
    pointwise
    rfl
  unfold k0_pay84
  generalize k0_pay83 (F := Ideal) (k0_pay6 x2) (vlo x2) = m at hm ⊢
  generalize vhi (F := Ideal) x2 = y at hM ⊢
  generalize k0_pay80 (F := Ideal) (k0_pay6 x2) = y1 at hM ⊢
  generalize k0_pay81 (F := Ideal) (k0_pay6 x2) = y2 at hM ⊢
  generalize k0_pay82 (F := Ideal) (k0_pay6 x2) = y3 at hM ⊢
  pointwise
  simp only [hM]
  rw [hm, fifteenth_eq, lit_bot, fold_max_coe, hi_prod]
  exact step_mul 15 _ _

/-- The centred codes of the value block. -/
theorem vCode_apply (h : Fin 32) (r : Fin 512) (d : Fin 128) :
    k0_pay85 (F := Ideal) (k0_pay6 x2) (vlo x2) (vhi x2) (ix3 h r d)
      = ((code 15 (lo (fun p : Fin 32 × Fin 128 => W p.1 r p.2)) (hi (fun p : Fin 32 × Fin 128 => W p.1 r p.2)) (W h r d)
          - 7.5 : ℝ) : EReal) := by
  have hm := vMin_apply x2 W h2 r
  have hs := vStep_apply x2 W h2 r
  have hx : k0_pay6 (F := Ideal) x2 (ix3 h r d) = (W h r d : EReal) := by
    unfold k0_pay6
    pointwise
    exact h2 h r d
  unfold k0_pay85
  generalize k0_pay84 (F := Ideal) (k0_pay6 x2) (vlo x2) (vhi x2) = s at hs ⊢
  generalize k0_pay83 (F := Ideal) (k0_pay6 x2) (vlo x2) = m at hm ⊢
  generalize k0_pay6 (F := Ideal) x2 = x at hx ⊢
  pointwise
  rw [hm, hs, hx, code_mul, lit_half, ← EReal.coe_sub]

end Val

/-- The scores of one chunk. -/
theorem score_apply (x0 : Vec Ideal S1x32x4x128 .f32) (x1 : Vec Ideal S1x32x512x128 .f32)
    (Q : Fin 32 → Fin 4 → Fin 128 → ℝ) (K : Fin 32 → Fin 512 → Fin 128 → ℝ)
    (h0 : ∀ h g d, x0 (ix4 0 h g d) = (Q h g d : EReal)) (h1 : ∀ h r d, x1 (ix4 0 h r d) = (K h r d : EReal))
    (h : Fin 32) (g : Fin 4) (r : Fin 512) :
    k0_pay86 (F := Ideal) (k0_pay7 x0) (kdq x1) (ix3 h g r) = (rowScore (Q h g) (fun h d => K h r d) h : EReal) := by
  have hk := fun d => kdq_apply x1 K h1 h r d
  have hx : ∀ d, k0_pay7 (F := Ideal) x0 (ix3 h g d) = (Q h g d : EReal) := by
    intro d
    unfold k0_pay7
    pointwise
    exact h0 h g d
  unfold k0_pay86
  generalize kdq (F := Ideal) x1 = k at hk ⊢
  generalize k0_pay7 (F := Ideal) x0 = q at hx ⊢
  pointwise
  simp only [hk, hx, rsqrt_eq, ← EReal.coe_mul, ← coe_sum]
  rfl

section Row

variable (x0 : Vec Ideal S1x32x4x128 .f32) (x1 x2 : Vec Ideal S1x32x512x128 .f32) (mp lp : Vec Ideal S32x4 .f32)
  (ap : Vec Ideal S32x4x128 .f32) (h : Fin 32) (g : Fin 4) (s : Fin 512 → ℝ)
  (hs : ∀ r, k0_pay86 (F := Ideal) (k0_pay7 x0) (kdq x1) (ix3 h g r) = (s r : EReal))
include hs

/-- The new running maximum, before it is stored. -/
theorem top_apply : k0_pay87 (F := Ideal) (k0_pay7 x0) (kdq x1) mp (ix2 h g) = max (mp (ix2 h g)) (hi s : EReal) := by
  unfold k0_pay87
  generalize k0_pay86 (F := Ideal) (k0_pay7 x0) (kdq x1) = v at hs ⊢
  pointwise
  simp only [hs]
  rw [lit_bot, fold_max_coe]

/-- The new running maximum. -/
theorem mNew_apply : mNew (F := Ideal) x0 x1 mp (ix2 h g) = max (mp (ix2 h g)) (hi s : EReal) := by
  have ht := top_apply x0 x1 mp h g s hs
  unfold mNew k0_pay92
  generalize k0_pay87 (F := Ideal) (k0_pay7 x0) (kdq x1) mp = t at ht ⊢
  pointwise
  exact ht

/-- The rescale factor. -/
theorem alpha_apply : alpha (F := Ideal) x0 x1 mp (ix2 h g)
    = Ideal.exp (mp (ix2 h g) - max (mp (ix2 h g)) (hi s : EReal)) := by
  have ht := top_apply x0 x1 mp h g s hs
  unfold alpha k0_pay88
  generalize k0_pay87 (F := Ideal) (k0_pay7 x0) (kdq x1) mp = t at ht ⊢
  pointwise
  rw [ht]

/-- The unnormalised weights. -/
theorem wts_apply (r : Fin 512) : wts (F := Ideal) x0 x1 mp (ix3 h g r)
    = Ideal.exp ((s r : EReal) - max (mp (ix2 h g)) (hi s : EReal)) := by
  have ht := top_apply x0 x1 mp h g s hs
  unfold wts k0_pay89
  generalize k0_pay87 (F := Ideal) (k0_pay7 x0) (kdq x1) mp = t at ht ⊢
  generalize k0_pay86 (F := Ideal) (k0_pay7 x0) (kdq x1) = v at hs ⊢
  pointwise
  rw [ht, hs]

/-- The new running weight. -/
theorem lNew_apply : lNew (F := Ideal) x0 x1 mp lp (ix2 h g)
    = lp (ix2 h g) * Ideal.exp (mp (ix2 h g) - max (mp (ix2 h g)) (hi s : EReal))
      + ∑ r, Ideal.exp ((s r : EReal) - max (mp (ix2 h g)) (hi s : EReal)) := by
  have ha := alpha_apply x0 x1 mp h g s hs
  have hw := wts_apply x0 x1 mp h g s hs
  unfold lNew k0_pay90
  generalize alpha (F := Ideal) x0 x1 mp = a at ha ⊢
  generalize wts (F := Ideal) x0 x1 mp = w at hw ⊢
  pointwise
  simp only [ha, hw]

/-- The new accumulator, over steps `v`, lower ends `b` and centred codes `q` of the chunk's rows. -/
theorem accNew_apply (d : Fin 128) (v b q : Fin 512 → EReal)
    (hv : ∀ r, k0_pay84 (F := Ideal) (k0_pay6 x2) (vlo x2) (vhi x2) (ix1 r) = v r)
    (hb : ∀ r, k0_pay83 (F := Ideal) (k0_pay6 x2) (vlo x2) (ix1 r) = b r)
    (hq : ∀ r, k0_pay85 (F := Ideal) (k0_pay6 x2) (vlo x2) (vhi x2) (ix3 h r d) = q r) :
    accNew (F := Ideal) x0 x1 x2 mp ap (ix3 h g d)
      = ap (ix3 h g d) * Ideal.exp (mp (ix2 h g) - max (mp (ix2 h g)) (hi s : EReal))
        + ∑ r, Ideal.exp ((s r : EReal) - max (mp (ix2 h g)) (hi s : EReal)) * v r * q r
        + ∑ r, Ideal.exp ((s r : EReal) - max (mp (ix2 h g)) (hi s : EReal)) * (b r + ((7.5 : ℝ) : EReal) * v r) := by
  have ha := alpha_apply x0 x1 mp h g s hs
  have hw := wts_apply x0 x1 mp h g s hs
  unfold accNew k0_pay91
  generalize alpha (F := Ideal) x0 x1 mp = a at ha ⊢
  generalize wts (F := Ideal) x0 x1 mp = w at hw ⊢
  generalize k0_pay85 (F := Ideal) (k0_pay6 x2) (vlo x2) (vhi x2) = y at hq ⊢
  generalize k0_pay84 (F := Ideal) (k0_pay6 x2) (vlo x2) (vhi x2) = y1 at hv ⊢
  generalize k0_pay83 (F := Ideal) (k0_pay6 x2) (vlo x2) = y2 at hb ⊢
  pointwise
  simp only [ha, hw, hv, hb, hq, lit_half]

end Row

/-- One chunk moves the running softmax state of one query row on by the chunk's rows. -/
theorem chunk (x0 : Vec Ideal S1x32x4x128 .f32) (x1 x2 : Vec Ideal S1x32x512x128 .f32) (mp lp : Vec Ideal S32x4 .f32)
    (ap : Vec Ideal S32x4x128 .f32)
    (Q : Fin 32 → Fin 4 → Fin 128 → ℝ) (K W : Fin 32 → Fin 512 → Fin 128 → ℝ)
    (h0 : ∀ h g d, x0 (ix4 0 h g d) = (Q h g d : EReal)) (h1 : ∀ h r d, x1 (ix4 0 h r d) = (K h r d : EReal))
    (h2 : ∀ h r d, x2 (ix4 0 h r d) = (W h r d : EReal)) (h : Fin 32) (g : Fin 4) (d : Fin 128) (L A : ℝ)
    (st : St (mp (ix2 h g)) (lp (ix2 h g)) (ap (ix3 h g d)) L A) :
    St (mNew (F := Ideal) x0 x1 mp (ix2 h g)) (lNew (F := Ideal) x0 x1 mp lp (ix2 h g))
      (accNew (F := Ideal) x0 x1 x2 mp ap (ix3 h g d))
      (L + ∑ r, Real.exp (rowScore (Q h g) (fun h d => K h r d) h))
      (A + ∑ r, Real.exp (rowScore (Q h g) (fun h d => K h r d) h) * valDeq (fun p => W p.1 r p.2) h d) := by
  have hs := score_apply x0 x1 Q K h0 h1 h g
  rw [mNew_apply x0 x1 mp h g _ hs, lNew_apply x0 x1 mp lp h g _ hs,
    accNew_apply x0 x1 x2 mp ap h g _ hs d _ _ _ (vStep_apply x2 W h2) (vMin_apply x2 W h2)
      (fun r => vCode_apply x2 W h2 h r d)]
  exact st.next _ _ _ _ _ _

/-- What the last chunk stores is the weighted sum over the weight. -/
theorem quot_apply (a : Vec Ideal S32x4x128 .f32) (l : Vec Ideal S32x4 .f32) (z : Fin 1) (h : Fin 32) (g : Fin 4) (d : Fin 128) :
    k0_pay1 (F := Ideal) a l (ix4 z h g d) = Ideal.div (a (ix3 h g d)) (l (ix2 h g)) := by
  unfold k0_pay1
  pointwise

/-- The state from which a batch starts. -/
theorem start (h : Fin 32) (g : Fin 4) (d : Fin 128) :
    St (k0_pay2 (F := Ideal) (ix2 h g)) (k0_pay3 (F := Ideal) (ix2 h g)) (k0_pay4 (F := Ideal) (ix3 h g d)) 0 0 := by
  have e2 : k0_pay2 (F := Ideal) (ix2 h g) = ⊥ := by
    unfold k0_pay2
    pointwise
    exact lit_bot
  have e3 : k0_pay3 (F := Ideal) (ix2 h g) = 0 := by
    unfold k0_pay3
    pointwise
  have e4 : k0_pay4 (F := Ideal) (ix3 h g d) = 0 := by
    unfold k0_pay4
    pointwise
  rw [e2, e3, e4]
  exact St.init

end Cert.KernelIdeal.Read

end
-- ==== Proof.Grid.lean ====
/- The kernel's result over real inputs: the running softmax state after every grid point, and from it what the last chunk of
   each batch stores — the softmax average of the quantised values under the quantised scores. -/
module

public import proofs.«01_k».proof.Proof.Read
public import proofs.«01_k».proof.Proof.Gen.KernelIdeal.Value

@[expose] public section

set_option maxRecDepth 16384

noncomputable section

namespace Cert.KernelIdeal.Grid

open Idealize.ShloMosaic Idealize.ShloMosaic.TcCoe Idealize.SL.Sem
open Cert.KernelIdeal Cert.KernelIdeal.Gen Cert.KernelIdeal.Value Cert.KernelIdeal.Step Cert.Attn

/-- The batch of grid point `n`. -/
def bat (n : ℕ) : Fin 8 := Fin.ofNat 8 (n / 4)

/-- The row of the keys and values that chunk `j` holds at place `r`. -/
def row (j : ℕ) (r : Fin 512) : Fin 2048 := Fin.ofNat 2048 (512 * j + r.val)

/-- Which block each input window shows at a grid point. -/
theorem idx_facts : ∀ t : Fin cfg0.N,
    (win0_0.index t (0 : Fin 4) = t.val / 4 ∧ win0_0.index t (1 : Fin 4) = 0 ∧ win0_0.index t (2 : Fin 4) = 0
      ∧ win0_0.index t (3 : Fin 4) = 0)
    ∧ (win0_1.index t (0 : Fin 4) = t.val / 4 ∧ win0_1.index t (1 : Fin 4) = 0 ∧ win0_1.index t (2 : Fin 4) = t.val % 4
      ∧ win0_1.index t (3 : Fin 4) = 0)
    ∧ (win0_2.index t (0 : Fin 4) = t.val / 4 ∧ win0_2.index t (1 : Fin 4) = 0 ∧ win0_2.index t (2 : Fin 4) = t.val % 4
      ∧ win0_2.index t (3 : Fin 4) = 0) := by
  decide +kernel

section Blocks

variable (m : (ℓ : Loc nD τ sig) → Buf (Elt Ideal) ℓ) (c : Dev nD)

/-- The query block at a grid point is the batch's. -/
theorem blk0 (t : Fin cfg0.N) (h : Fin 32) (g : Fin 4) (d : Fin 128) :
    (iblk m c 0 t : Vec Ideal S1x32x4x128 .f32) (ix4 0 h g d)
      = (m ((c : Thread nD τ).loc main_arg0) : Vec Ideal S8x32x4x128 .f32) (ix4 (bat t.val) h g d) := by
  have ht : t.val < 32 := lt_of_lt_of_eq t.isLt N_0
  obtain ⟨⟨e0, e1, e2, e3⟩, _, _⟩ := idx_facts t
  unfold iblk
  rw [View.read_apply]
  show V m c main_arg0 _ = m (c.tc.loc main_arg0) _
  unfold V
  congr 1
  funext a
  apply Fin.ext
  match a with
  | ⟨0, _⟩ => show win0_0.index t 0 * 1 + 1 * 0 = t.val / 4 % 8; rw [e0]; omega
  | ⟨1, _⟩ => show win0_0.index t 1 * 32 + 1 * h.val = h.val; rw [e1]; omega
  | ⟨2, _⟩ => show win0_0.index t 2 * 4 + 1 * g.val = g.val; rw [e2]; omega
  | ⟨3, _⟩ => show win0_0.index t 3 * 128 + 1 * d.val = d.val; rw [e3]; omega

/-- The key block at a grid point is the batch's rows of the point's chunk. -/
theorem blk1 (t : Fin cfg0.N) (h : Fin 32) (r : Fin 512) (d : Fin 128) :
    (iblk m c 1 t : Vec Ideal S1x32x512x128 .f32) (ix4 0 h r d)
      = (m ((c : Thread nD τ).loc main_arg1) : Vec Ideal S8x32x2048x128 .f32) (ix4 (bat t.val) h (row (t.val % 4) r) d) := by
  have ht : t.val < 32 := lt_of_lt_of_eq t.isLt N_0
  obtain ⟨_, ⟨e0, e1, e2, e3⟩, _⟩ := idx_facts t
  unfold iblk
  rw [View.read_apply]
  show V m c main_arg1 _ = m (c.tc.loc main_arg1) _
  unfold V
  congr 1
  funext a
  apply Fin.ext
  match a with
  | ⟨0, _⟩ => show win0_1.index t 0 * 1 + 1 * 0 = t.val / 4 % 8; rw [e0]; omega
  | ⟨1, _⟩ => show win0_1.index t 1 * 32 + 1 * h.val = h.val; rw [e1]; omega
  | ⟨2, _⟩ => show win0_1.index t 2 * 512 + 1 * r.val = (512 * (t.val % 4) + r.val) % 2048; rw [e2]; omega
  | ⟨3, _⟩ => show win0_1.index t 3 * 128 + 1 * d.val = d.val; rw [e3]; omega

/-- The value block at a grid point is the batch's rows of the point's chunk. -/
theorem blk2 (t : Fin cfg0.N) (h : Fin 32) (r : Fin 512) (d : Fin 128) :
    (iblk m c 2 t : Vec Ideal S1x32x512x128 .f32) (ix4 0 h r d)
      = (m ((c : Thread nD τ).loc main_arg2) : Vec Ideal S8x32x2048x128 .f32) (ix4 (bat t.val) h (row (t.val % 4) r) d) := by
  have ht : t.val < 32 := lt_of_lt_of_eq t.isLt N_0
  obtain ⟨_, _, e0, e1, e2, e3⟩ := idx_facts t
  unfold iblk
  rw [View.read_apply]
  show V m c main_arg2 _ = m (c.tc.loc main_arg2) _
  unfold V
  congr 1
  funext a
  apply Fin.ext
  match a with
  | ⟨0, _⟩ => show win0_2.index t 0 * 1 + 1 * 0 = t.val / 4 % 8; rw [e0]; omega
  | ⟨1, _⟩ => show win0_2.index t 1 * 32 + 1 * h.val = h.val; rw [e1]; omega
  | ⟨2, _⟩ => show win0_2.index t 2 * 512 + 1 * r.val = (512 * (t.val % 4) + r.val) % 2048; rw [e2]; omega
  | ⟨3, _⟩ => show win0_2.index t 3 * 128 + 1 * d.val = d.val; rw [e3]; omega

/-- The carried buffers after a batch's first chunk. -/
theorem first (t : Fin cfg0.N) (h0 : t.val % 4 = 0) :
    (outsAt0 m c t.val t.isLt).2
      = (accNew (F := Ideal) (iblk m c 0 t) (iblk m c 1 t) (iblk m c 2 t) (k0_pay2 (F := Ideal)) (k0_pay4 (F := Ideal)),
         mNew (F := Ideal) (iblk m c 0 t) (iblk m c 1 t) (k0_pay2 (F := Ideal)),
         lNew (F := Ideal) (iblk m c 0 t) (iblk m c 1 t) (k0_pay2 (F := Ideal)) (k0_pay3 (F := Ideal))) := by
  rw [outsAt0_A m c t h0 (by omega)]
  dsimp only
  rw [sout_A_0, sout_A_1, sout_A_2]

/-- The carried buffers after a later chunk, from what the point before left. -/
theorem later (t : Fin cfg0.N) (h0 : ¬t.val % 4 = 0) (hp : t.val - 1 < cfg0.N) :
    (outsAt0 m c t.val t.isLt).2
      = (accNew (F := Ideal) (iblk m c 0 t) (iblk m c 1 t) (iblk m c 2 t) (outsAt0 m c (t.val - 1) hp).2.2.1
            (outsAt0 m c (t.val - 1) hp).2.1,
         mNew (F := Ideal) (iblk m c 0 t) (iblk m c 1 t) (outsAt0 m c (t.val - 1) hp).2.2.1,
         lNew (F := Ideal) (iblk m c 0 t) (iblk m c 1 t) (outsAt0 m c (t.val - 1) hp).2.2.1
            (outsAt0 m c (t.val - 1) hp).2.2.2) := by
  by_cases h1 : t.val % 4 = 3
  · rw [outsAt0_C m c t h0 h1]
    dsimp only
    rw [sout_C_0, sout_C_1, sout_C_2]
  · rw [outsAt0_B m c t h0 h1]
    dsimp only
    rw [sout_B_0, sout_B_1, sout_B_2]

/-- The output block after a batch's last chunk. -/
theorem last (t : Fin cfg0.N) (h1 : t.val % 4 = 3) :
    (outsAt0 m c t.val t.isLt).1
      = k0_pay1 (F := Ideal) (outsAt0 m c t.val t.isLt).2.1 (outsAt0 m c t.val t.isLt).2.2.2 := by
  have h0 : ¬t.val % 4 = 0 := by omega
  rw [later m c t h0 (Nat.lt_of_le_of_lt (Nat.sub_le _ _) t.isLt)]
  rw [outsAt0_C m c t h0 h1]
  dsimp only
  rw [out_C]

end Blocks

/-- A sum over all rows is the sum over the chunks of the sums over their rows. -/
theorem sum_rows (f : Fin 2048 → ℝ) : ∑ n, f n = ∑ j ∈ Finset.range 4, ∑ r, f (row j r) := by
  rw [Finset.sum_range]
  have h := Equiv.sum_comp (finProdFinEquiv (m := 4) (n := 512)) (fun x : Fin (4 * 512) => f x)
  rw [Fintype.sum_prod_type] at h
  refine h.symm.trans (Finset.sum_congr rfl fun j _ => Finset.sum_congr rfl fun r _ => congrArg f (Fin.ext ?_))
  show r.val + 512 * j.val = (512 * j.val + r.val) % 2048
  omega

section Run

variable (m : (ℓ : Loc nD τ sig) → Buf (Elt Ideal) ℓ) (c : Dev nD)
  (Q : Fin 8 → Fin 32 → Fin 4 → Fin 128 → ℝ) (K W : Fin 8 → Fin 32 → Fin 2048 → Fin 128 → ℝ)
  (hQ : ∀ b h g d, (m ((c : Thread nD τ).loc main_arg0) : Vec Ideal S8x32x4x128 .f32) (ix4 b h g d) = (Q b h g d : EReal))
  (hK : ∀ b h n d, (m ((c : Thread nD τ).loc main_arg1) : Vec Ideal S8x32x2048x128 .f32) (ix4 b h n d) = (K b h n d : EReal))
  (hW : ∀ b h n d, (m ((c : Thread nD τ).loc main_arg2) : Vec Ideal S8x32x2048x128 .f32) (ix4 b h n d) = (W b h n d : EReal))

/-- The score of one query row against row `n` of its batch. -/
def sc (b : Fin 8) (h : Fin 32) (g : Fin 4) (n : Fin 2048) : ℝ := rowScore (Q b h g) (fun h d => K b h n d) h

/-- The quantised value of row `n` at head `h` and channel `d`. -/
def vl (b : Fin 8) (h : Fin 32) (d : Fin 128) (n : Fin 2048) : ℝ := valDeq (fun p => W b p.1 n p.2) h d

/-- The weight of the first `k` chunks. -/
def wt (b : Fin 8) (h : Fin 32) (g : Fin 4) (k : ℕ) : ℝ :=
  ∑ j ∈ Finset.range k, ∑ r, Real.exp (sc Q K b h g (row j r))

/-- The weighted sum of the values of the first `k` chunks. -/
def ws (b : Fin 8) (h : Fin 32) (g : Fin 4) (d : Fin 128) (k : ℕ) : ℝ :=
  ∑ j ∈ Finset.range k, ∑ r, Real.exp (sc Q K b h g (row j r)) * vl W b h d (row j r)

include hQ hK hW in
/-- After every grid point the carried buffers hold the softmax state of the batch's chunks so far. -/
theorem state (n : ℕ) : ∀ hn : n < cfg0.N, ∀ (h : Fin 32) (g : Fin 4) (d : Fin 128),
    St ((outsAt0 m c n hn).2.2.1 (ix2 h g)) ((outsAt0 m c n hn).2.2.2 (ix2 h g)) ((outsAt0 m c n hn).2.1 (ix3 h g d))
      (wt Q K (bat n) h g (n % 4 + 1)) (ws Q K W (bat n) h g d (n % 4 + 1)) := by
  induction n with
  | zero =>
    intro hn h g d
    have e := first m c ⟨0, hn⟩ (Nat.zero_mod _)
    have st := Read.chunk (iblk m c 0 ⟨0, hn⟩) (iblk m c 1 ⟨0, hn⟩) (iblk m c 2 ⟨0, hn⟩) (k0_pay2 (F := Ideal)) (k0_pay3 (F := Ideal)) (k0_pay4 (F := Ideal)) _ _ _
      (fun h g d => (blk0 m c ⟨0, hn⟩ h g d).trans (hQ _ h g d)) (fun h r d => (blk1 m c ⟨0, hn⟩ h r d).trans (hK _ h _ d))
      (fun h r d => (blk2 m c ⟨0, hn⟩ h r d).trans (hW _ h _ d)) h g d 0 0 (Read.start h g d)
    dsimp only at e
    rw [e]
    unfold wt ws
    rw [Finset.sum_range_succ, Finset.sum_range_succ]
    exact st
  | succ n ih =>
    intro hn h g d
    have hN : n + 1 < 32 := lt_of_lt_of_eq hn N_0
    unfold wt ws
    rw [Finset.sum_range_succ, Finset.sum_range_succ]
    by_cases h0 : (n + 1) % 4 = 0
    · have e := first m c ⟨n + 1, hn⟩ h0
      dsimp only at e
      rw [e]
      have st := Read.chunk (iblk m c 0 ⟨n + 1, hn⟩) (iblk m c 1 ⟨n + 1, hn⟩) (iblk m c 2 ⟨n + 1, hn⟩) (k0_pay2 (F := Ideal)) (k0_pay3 (F := Ideal)) (k0_pay4 (F := Ideal))
        _ _ _ (fun h g d => (blk0 m c ⟨n + 1, hn⟩ h g d).trans (hQ _ h g d))
        (fun h r d => (blk1 m c ⟨n + 1, hn⟩ h r d).trans (hK _ h _ d))
        (fun h r d => (blk2 m c ⟨n + 1, hn⟩ h r d).trans (hW _ h _ d)) h g d 0 0 (Read.start h g d)
      have z1 : ∑ j ∈ Finset.range ((n + 1) % 4), ∑ r, Real.exp (sc Q K (bat (n + 1)) h g (row j r)) = 0 := by
        rw [h0]; rfl
      have z2 : ∑ j ∈ Finset.range ((n + 1) % 4), ∑ r, Real.exp (sc Q K (bat (n + 1)) h g (row j r))
          * vl W (bat (n + 1)) h d (row j r) = 0 := by
        rw [h0]; rfl
      rw [z1, z2]
      exact st
    · have e := later m c ⟨n + 1, hn⟩ h0 (by show n + 1 - 1 < _; omega)
      dsimp only at e
      rw [e]
      have hb : bat (n + 1) = bat n := by
        unfold bat
        rw [show (n + 1) / 4 = n / 4 by omega]
      have hk : (n + 1) % 4 = n % 4 + 1 := by omega
      have prev := ih (Nat.lt_of_succ_lt hn) h g d
      rw [← hb, ← hk] at prev
      exact Read.chunk (iblk m c 0 ⟨n + 1, hn⟩) (iblk m c 1 ⟨n + 1, hn⟩) (iblk m c 2 ⟨n + 1, hn⟩) _ _ _ _ _ _
        (fun h g d => (blk0 m c ⟨n + 1, hn⟩ h g d).trans (hQ _ h g d))
        (fun h r d => (blk1 m c ⟨n + 1, hn⟩ h r d).trans (hK _ h _ d))
        (fun h r d => (blk2 m c ⟨n + 1, hn⟩ h r d).trans (hW _ h _ d)) h g d _ _ prev

include hQ hK hW in
/-- The kernel's result over real inputs. -/
theorem out_apply (b : Fin 8) (h : Fin 32) (g : Fin 4) (d : Fin 128) :
    (G3 m c : Vec Ideal S8x32x4x128 .f32) (ix4 b h g d) = (result Q K W b h g d : EReal) := by
  have hp : pt3Of (ix4 b h g d) = 4 * b.val + 3 := by
    show 4 * (1 * (b.val / 1 - 0) + 1 * (h.val / 32 - 0) + 1 * (g.val / 4 - 0) + 1 * (d.val / 128 - 0)) + 3 = _
    omega
  have hlt : 4 * b.val + 3 < cfg0.N := by
    rw [show cfg0.N = 32 from N_0]; omega
  have hl : loc3Of (ix4 b h g d) = ix4 (0 : Fin 1) h g d := by
    funext a; apply Fin.ext
    match a with
    | ⟨0, _⟩ => show b.val % 1 = 0; omega
    | ⟨1, _⟩ => show h.val % 32 = h.val; omega
    | ⟨2, _⟩ => show g.val % 4 = g.val; omega
    | ⟨3, _⟩ => show d.val % 128 = d.val; omega
  have st := state m c Q K W hQ hK hW (4 * b.val + 3) hlt h g d
  have hb : bat (4 * b.val + 3) = b := by
    apply Fin.ext
    show (4 * b.val + 3) / 4 % 8 = b.val
    omega
  rw [hb, show (4 * b.val + 3) % 4 + 1 = 4 by omega] at st
  have hpos : 0 < wt Q K b h g 4 := by
    unfold wt
    rw [← sum_rows (fun n => Real.exp (sc Q K b h g n))]
    exact Finset.sum_pos (fun n _ => Real.exp_pos _) Finset.univ_nonempty
  unfold G3
  simp only [hp]
  rw [dif_pos hlt, ← outsAt0_sweep m c _ hlt, hl, last m c ⟨4 * b.val + 3, hlt⟩ (by show (4 * b.val + 3) % 4 = 3; omega),
    Read.quot_apply, st.quot hpos]
  unfold wt ws result attn
  rw [← sum_rows (fun n => Real.exp (sc Q K b h g n)), ← sum_rows (fun n => Real.exp (sc Q K b h g n) * vl W b h d n)]
  rfl

end Run

end Cert.KernelIdeal.Grid

end
-- ==== Proof.Ref.lean ====
/- The reference's result, cut into its stages (the range of the keys and of the values, their quantised readings, the
   scores, the softmax) and each stage read at an index over real inputs: the result is the softmax average of the quantised
   values under the quantised scores. -/
module

public import proofs.«01_k».proof.Proof.Spec
public import proofs.«01_k».proof.Proof.Lits
public import proofs.«01_k».proof.Proof.Gen.ReferenceIdeal.Run

@[expose] public section

set_option maxRecDepth 16384

noncomputable section

namespace Cert.ReferenceIdeal.Stage

open Idealize.ShloMosaic Idealize.ShloMosaic.TcCoe Idealize.SL.Sem
open Cert.ReferenceIdeal Cert.ReferenceIdeal.Gen Cert.ReferenceIdeal.Value Cert.Attn

/-- The keys' least value over the heads. -/
def kMin (x : FVec Ideal S8x32x2048x128 .f32) : FVec Ideal S8x1x2048x128 .f32 :=
  broadcastInDim S8x1x2048x128 ![0, 2, 3] bcast_S8x2048x128_S8x1x2048x128_0_2_3
    (Host.reduce FloatOps.minimumf x (constant S_ .f32 0x7F800000#32) reducesTo_S8x32x2048x128_S8x2048x128_d1 h_S_)

/-- The keys' greatest value over the heads. -/
def kMax (x : FVec Ideal S8x32x2048x128 .f32) : FVec Ideal S8x1x2048x128 .f32 :=
  broadcastInDim S8x1x2048x128 ![0, 2, 3] bcast_S8x2048x128_S8x1x2048x128_0_2_3
    (Host.reduce FloatOps.maximumf x (constant S_ .f32 0xFF800000#32) reducesTo_S8x32x2048x128_S8x2048x128_d1 h_S_)

/-- The keys' range over three. -/
def kQuot (a b : FVec Ideal S8x1x2048x128 .f32) : FVec Ideal S8x1x2048x128 .f32 :=
  Host.divf (subf b a) (broadcastInDim S8x1x2048x128 ![] bcast_S_S8x1x2048x128 (constant S_ .f32 0x40400000#32))

/-- The keys' quantiser step. -/
def kStep (a b : FVec Ideal S8x1x2048x128 .f32) : FVec Ideal S8x1x2048x128 .f32 :=
  select (cmpf .oeq (kQuot a b) (broadcastInDim S8x1x2048x128 ![] bcast_S_S8x1x2048x128 (constant S_ .f32 0x00000000#32)))
    (broadcastInDim S8x1x2048x128 ![] bcast_S_S8x1x2048x128 (id (constant S_ .f32 0x3F800000#32))) (kQuot a b)

/-- A row of the keys' ranges repeated for every head. -/
def kWide (x : FVec Ideal S8x1x2048x128 .f32) : FVec Ideal S8x32x2048x128 .f32 :=
  broadcastInDim S8x32x2048x128 ![0, 1, 2, 3] bcast_S8x1x2048x128_S8x32x2048x128_0_1_2_3 x

/-- The keys quantised and read back. -/
def kDeq (x : FVec Ideal S8x32x2048x128 .f32) : FVec Ideal S8x32x2048x128 .f32 :=
  addf (mulf (minimumf (broadcastInDim S8x32x2048x128 ![] bcast_S_S8x32x2048x128 (id (constant S_ .f32 0x40400000#32)))
    (maximumf (broadcastInDim S8x32x2048x128 ![] bcast_S_S8x32x2048x128 (id (constant S_ .f32 0x00000000#32)))
      (Host.roundeven (Host.divf (subf x (kWide (kMin x))) (kWide (kStep (kMin x) (kMax x))))))) (kWide (kStep (kMin x) (kMax x)))) (kWide (kMin x))

/-- The values' least value over heads and channels. -/
def vMin (x : FVec Ideal S8x32x2048x128 .f32) : FVec Ideal S8x1x2048x1 .f32 :=
  broadcastInDim S8x1x2048x1 ![0, 2] bcast_S8x2048_S8x1x2048x1_0_2
    (Host.reduce FloatOps.minimumf x (constant S_ .f32 0x7F800000#32) reducesTo_S8x32x2048x128_S8x2048_d1_3 h_S_)

/-- The values' greatest value over heads and channels. -/
def vMax (x : FVec Ideal S8x32x2048x128 .f32) : FVec Ideal S8x1x2048x1 .f32 :=
  broadcastInDim S8x1x2048x1 ![0, 2] bcast_S8x2048_S8x1x2048x1_0_2
    (Host.reduce FloatOps.maximumf x (constant S_ .f32 0xFF800000#32) reducesTo_S8x32x2048x128_S8x2048_d1_3 h_S_)

/-- The values' range over fifteen. -/
def vQuot (a b : FVec Ideal S8x1x2048x1 .f32) : FVec Ideal S8x1x2048x1 .f32 :=
  Host.divf (subf b a) (broadcastInDim S8x1x2048x1 ![] bcast_S_S8x1x2048x1 (constant S_ .f32 0x41700000#32))

/-- The values' quantiser step. -/
def vStep (a b : FVec Ideal S8x1x2048x1 .f32) : FVec Ideal S8x1x2048x1 .f32 :=
  select (cmpf .oeq (vQuot a b) (broadcastInDim S8x1x2048x1 ![] bcast_S_S8x1x2048x1 (constant S_ .f32 0x00000000#32)))
    (broadcastInDim S8x1x2048x1 ![] bcast_S_S8x1x2048x1 (id (constant S_ .f32 0x3F800000#32))) (vQuot a b)

/-- A row of the values' ranges repeated for every head and channel. -/
def vWide (x : FVec Ideal S8x1x2048x1 .f32) : FVec Ideal S8x32x2048x128 .f32 :=
  broadcastInDim S8x32x2048x128 ![0, 1, 2, 3] bcast_S8x1x2048x1_S8x32x2048x128_0_1_2_3 x

/-- The values quantised and read back. -/
def vDeq (x : FVec Ideal S8x32x2048x128 .f32) : FVec Ideal S8x32x2048x128 .f32 :=
  addf (mulf (minimumf (broadcastInDim S8x32x2048x128 ![] bcast_S_S8x32x2048x128 (id (constant S_ .f32 0x41700000#32)))
    (maximumf (broadcastInDim S8x32x2048x128 ![] bcast_S_S8x32x2048x128 (id (constant S_ .f32 0x00000000#32)))
      (Host.roundeven (Host.divf (subf x (vWide (vMin x))) (vWide (vStep (vMin x) (vMax x))))))) (vWide (vStep (vMin x) (vMax x)))) (vWide (vMin x))

/-- The scores of queries `q` against keys `k`. -/
def score (q : FVec Ideal S8x32x4x128 .f32) (k : FVec Ideal S8x32x2048x128 .f32) : FVec Ideal S8x32x4x2048 .f32 :=
  Host.divf (Host.dotGeneral dot_S8x32x4x128_S8x32x2048x128_S8x32x4x2048_3_3_2_2_01_01 none q k)
    (broadcastInDim S8x32x4x2048 ![] bcast_S_S8x32x4x2048 (id (Host.sqrt (constant S_ .f32 0x43000000#32))))

/-- The greatest score of each query. -/
def most (s : FVec Ideal S8x32x4x2048 .f32) : FVec Ideal S8x32x4 .f32 :=
  Host.reduce FloatOps.maximumf s (constant S_ .f32 0xFF800000#32) reducesTo_S8x32x4x2048_S8x32x4_d3 h_S_

/-- The greatest score of each query, and of negative infinity. -/
def top (s : FVec Ideal S8x32x4x2048 .f32) : FVec Ideal S8x32x4 .f32 :=
  maximumf (broadcastInDim S8x32x4 ![] bcast_S_S8x32x4 (constant S_ .f32 0xFF800000#32)) (most s)

/-- One number per query, repeated for every key. -/
def qWide (x : FVec Ideal S8x32x4 .f32) : FVec Ideal S8x32x4x2048 .f32 :=
  broadcastInDim S8x32x4x2048 ![0, 1, 2, 3] bcast_S8x32x4x1_S8x32x4x2048_0_1_2_3
    (broadcastInDim S8x32x4x1 ![0, 1, 2] bcast_S8x32x4_S8x32x4x1_0_1_2 x)

/-- The exponentials of the scores, shifted by the greatest one. -/
def expo (s : FVec Ideal S8x32x4x2048 .f32) : FVec Ideal S8x32x4x2048 .f32 := Host.exp (subf s (qWide (top s)))

/-- The softmax of the scores. -/
def soft (s : FVec Ideal S8x32x4x2048 .f32) : FVec Ideal S8x32x4x2048 .f32 :=
  Host.divf (expo s) (qWide (Host.reduceAdd (expo s) (constant S_ .f32 0x00000000#32) reducesTo_S8x32x4x2048_S8x32x4_d3 h_S_))

/-- The whole result. -/
def out (q : FVec Ideal S8x32x4x128 .f32) (k v : FVec Ideal S8x32x2048x128 .f32) : FVec Ideal S8x32x4x128 .f32 :=
  Host.dotGeneral dot_S8x32x4x2048_S8x32x2048x128_S8x32x4x128_3_2_2_3_01_01 none (soft (score q (kDeq k))) (vDeq v)

/-- The reference's result is the composition of the stages. -/
theorem res_eq (m : (ℓ : Loc nD τ sig) → Buf (Elt Ideal) ℓ) (c : Dev nD) :
    res_out0 (F := Ideal) m c = out (m ((c.tc : Thread nD τ).loc main_arg0)) (m ((c.tc : Thread nD τ).loc main_arg1))
      (m ((c.tc : Thread nD τ).loc main_arg2)) := by
  unfold res_out0 res_main_v56 out soft expo qWide top most score vDeq vWide vStep vQuot vMax vMin kDeq kWide kStep kQuot kMax kMin
  rfl

/-- The keys' quantiser step from a range's two ends. -/
theorem kStep_apply (a b : FVec Ideal S8x1x2048x128 .f32) (i : Fin 8) (z : Fin 1) (n : Fin 2048) (d : Fin 128) (r s : ℝ)
    (ha : a (ix4 i z n d) = (r : EReal)) (hb : b (ix4 i z n d) = (s : EReal)) :
    kStep a b (ix4 i z n d) = (step 3 r s : EReal) := by
  have hq : kQuot a b (ix4 i z n d) = Ideal.div ((s : EReal) - (r : EReal)) ((3 : ℝ) : EReal) := by
    unfold kQuot
    pointwise
    rw [ha, hb, lit_three]
  unfold kStep
  simp only [id_eq]
  pointwise
  rw [hq, ← step_div 3 r s (by norm_num)]

/-- The values' quantiser step from a range's two ends. -/
theorem vStep_apply (a b : FVec Ideal S8x1x2048x1 .f32) (i : Fin 8) (z : Fin 1) (n : Fin 2048) (d : Fin 1) (r s : ℝ)
    (ha : a (ix4 i z n d) = (r : EReal)) (hb : b (ix4 i z n d) = (s : EReal)) :
    vStep a b (ix4 i z n d) = (step 15 r s : EReal) := by
  have hq : vQuot a b (ix4 i z n d) = Ideal.div ((s : EReal) - (r : EReal)) ((15 : ℝ) : EReal) := by
    unfold vQuot
    pointwise
    rw [ha, hb, lit_fifteen]
  unfold vStep
  simp only [id_eq]
  pointwise
  rw [hq, ← step_div 15 r s (by norm_num)]

/-- Which positions of the values fold into row `(b, n)`. -/
theorem drop_iff (i : S8x32x2048x128.Idx) (b : Fin 8) (n : Fin 2048) :
    reducesTo_S8x32x2048x128_S8x2048_d1_3.drop i = ix2 b n ↔ i 0 = b ∧ i 2 = n := by
  have h0 : (reducesTo_S8x32x2048x128_S8x2048_d1_3.drop i 0 : Nat) = i 0 := Shape.ReducesTo.drop_apply_val _ i 0
  have h1 : (reducesTo_S8x32x2048x128_S8x2048_d1_3.drop i 1 : Nat) = i 2 := Shape.ReducesTo.drop_apply_val _ i 1
  constructor
  · intro h
    rw [h] at h0 h1
    exact ⟨Fin.ext h0.symm, Fin.ext h1.symm⟩
  · rintro ⟨rfl, rfl⟩
    funext a
    match a with
    | ⟨0, _⟩ => exact Fin.ext h0
    | ⟨1, _⟩ => exact Fin.ext h1

section Read

variable (x : FVec Ideal S8x32x2048x128 .f32) (X : Fin 8 → Fin 32 → Fin 2048 → Fin 128 → ℝ)
  (hx : ∀ b h n d, x (ix4 b h n d) = (X b h n d : EReal))
include hx

/-- The keys' least value over the heads. -/
theorem kMin_apply (b : Fin 8) (z : Fin 1) (n : Fin 2048) (d : Fin 128) :
    kMin x (ix4 b z n d) = (lo (fun h => X b h n d) : EReal) := by
  unfold kMin
  pointwise
  simp only [hx, lit_top]
  exact fold_min_coe _

/-- The keys' greatest value over the heads. -/
theorem kMax_apply (b : Fin 8) (z : Fin 1) (n : Fin 2048) (d : Fin 128) :
    kMax x (ix4 b z n d) = (hi (fun h => X b h n d) : EReal) := by
  unfold kMax
  pointwise
  simp only [hx, lit_bot]
  exact fold_max_coe _

/-- The keys quantised and read back. -/
theorem kDeq_apply (b : Fin 8) (h : Fin 32) (n : Fin 2048) (d : Fin 128) :
    kDeq x (ix4 b h n d) = (keyDeq (fun h => X b h n d) h : EReal) := by
  have hm := kMin_apply x X hx b 0 n d
  have hs := kStep_apply _ _ b 0 n d _ _ hm (kMax_apply x X hx b 0 n d)
  unfold kDeq kWide
  simp only [id_eq]
  generalize kStep (kMin x) (kMax x) = s at hs ⊢
  generalize kMin x = m at hm ⊢
  pointwise
  rw [hm, hs, hx, code_div, lit_three]
  have hc := clip_code 3 (by norm_num) _ _ _ (lo_le (fun h => X b h n d) h) (le_hi (fun h => X b h n d) h)
  rw [Int.cast_ofNat] at hc
  rw [hc]
  exact deq_coe _ _ _ _

/-- The values' least value over heads and channels. -/
theorem vMin_apply (b : Fin 8) (z : Fin 1) (n : Fin 2048) (w : Fin 1) :
    vMin x (ix4 b z n w) = (lo (fun p : Fin 32 × Fin 128 => X b p.1 n p.2) : EReal) := by
  unfold vMin
  pointwise
  rw [lit_top]
  have hle : ∀ p : Fin 32 × Fin 128, Finset.fold min (⊤ : EReal) x {i | reducesTo_S8x32x2048x128_S8x2048_d1_3.drop i = ix2 b n}
      ≤ (X b p.1 n p.2 : EReal) := fun p =>
    (Finset.fold_min_le _).2 (Or.inr ⟨ix4 b p.1 n p.2, by
      rw [Finset.mem_filter]; exact ⟨Finset.mem_univ _, (drop_iff _ _ _).2 ⟨rfl, rfl⟩⟩, (hx _ _ _ _).le⟩)
  apply le_antisymm
  · obtain ⟨p, hp⟩ := exists_lo (fun p : Fin 32 × Fin 128 => X b p.1 n p.2)
    rw [hp]; exact hle p
  · refine (Finset.le_fold_min _).2 ⟨le_top, fun i hi => ?_⟩
    idx_vars i
    obtain ⟨rfl, rfl⟩ := (drop_iff _ _ _).1 (Finset.mem_filter.1 hi).2
    rw [hx]
    exact EReal.coe_le_coe_iff.2 (lo_le (fun p : Fin 32 × Fin 128 => X _ p.1 _ p.2) (i1, i3))

/-- The values' greatest value over heads and channels. -/
theorem vMax_apply (b : Fin 8) (z : Fin 1) (n : Fin 2048) (w : Fin 1) :
    vMax x (ix4 b z n w) = (hi (fun p : Fin 32 × Fin 128 => X b p.1 n p.2) : EReal) := by
  unfold vMax
  pointwise
  rw [lit_bot]
  have hle : ∀ p : Fin 32 × Fin 128, (X b p.1 n p.2 : EReal)
      ≤ Finset.fold max (⊥ : EReal) x {i | reducesTo_S8x32x2048x128_S8x2048_d1_3.drop i = ix2 b n} := fun p =>
    (Finset.le_fold_max _).2 (Or.inr ⟨ix4 b p.1 n p.2, by
      rw [Finset.mem_filter]; exact ⟨Finset.mem_univ _, (drop_iff _ _ _).2 ⟨rfl, rfl⟩⟩, (hx _ _ _ _).ge⟩)
  apply le_antisymm
  · refine (Finset.fold_max_le _).2 ⟨bot_le, fun i hi => ?_⟩
    idx_vars i
    obtain ⟨rfl, rfl⟩ := (drop_iff _ _ _).1 (Finset.mem_filter.1 hi).2
    rw [hx]
    exact EReal.coe_le_coe_iff.2 (le_hi (fun p : Fin 32 × Fin 128 => X _ p.1 _ p.2) (i1, i3))
  · obtain ⟨p, hp⟩ := exists_hi (fun p : Fin 32 × Fin 128 => X b p.1 n p.2)
    rw [hp]; exact hle p

/-- The values quantised and read back. -/
theorem vDeq_apply (b : Fin 8) (h : Fin 32) (n : Fin 2048) (d : Fin 128) :
    vDeq x (ix4 b h n d) = (valDeq (fun p => X b p.1 n p.2) h d : EReal) := by
  have hm := vMin_apply x X hx b 0 n 0
  have hs := vStep_apply _ _ b 0 n 0 _ _ hm (vMax_apply x X hx b 0 n 0)
  unfold vDeq vWide
  simp only [id_eq]
  generalize vStep (vMin x) (vMax x) = s at hs ⊢
  generalize vMin x = m at hm ⊢
  pointwise
  rw [hm, hs, hx, code_div, lit_fifteen]
  have hc := clip_code 15 (by norm_num) _ _ _ (lo_le (fun p : Fin 32 × Fin 128 => X b p.1 n p.2) (h, d))
    (le_hi (fun p : Fin 32 × Fin 128 => X b p.1 n p.2) (h, d))
  rw [Int.cast_ofNat] at hc
  rw [hc]
  exact deq_coe _ _ _ _

end Read

/-- A score over real queries and keys. -/
theorem score_apply (q : FVec Ideal S8x32x4x128 .f32) (k : FVec Ideal S8x32x2048x128 .f32) (b : Fin 8) (h : Fin 32)
    (g : Fin 4) (n : Fin 2048) (Q K : Fin 128 → ℝ) (hq : ∀ d, q (ix4 b h g d) = (Q d : EReal))
    (hk : ∀ d, k (ix4 b h n d) = (K d : EReal)) :
    score q k (ix4 b h g n) = (((∑ d, Q d * K d) * (Real.sqrt 128)⁻¹ : ℝ) : EReal) := by
  have hs : (0 : ℝ) < Real.sqrt 128 := Real.sqrt_pos.2 (by norm_num)
  have hd : Ideal.sqrt (Ideal.ofBits .f32 0x43000000#32) = ((Real.sqrt 128 : ℝ) : EReal) := by
    rw [lit_dim, Ideal.sqrt_coe, if_neg (by norm_num)]
  unfold score
  simp only [id_eq]
  pointwise
  simp only [hq, hk, hd, ← EReal.coe_mul, ← coe_sum]
  rw [div_coe_coe _ _ hs.ne', div_eq_mul_inv]

/-- The greatest of real scores. -/
theorem most_apply (s : FVec Ideal S8x32x4x2048 .f32) (b : Fin 8) (h : Fin 32) (g : Fin 4) (S : Fin 2048 → ℝ)
    (hs : ∀ n, s (ix4 b h g n) = (S n : EReal)) : most s (ix3 b h g) = (hi S : EReal) := by
  unfold most
  pointwise
  simp only [hs, lit_bot]
  exact fold_max_coe _

/-- Including negative infinity leaves the greatest score as it is. -/
theorem top_apply (s : FVec Ideal S8x32x4x2048 .f32) (b : Fin 8) (h : Fin 32) (g : Fin 4) (S : Fin 2048 → ℝ)
    (hs : ∀ n, s (ix4 b h g n) = (S n : EReal)) : top s (ix3 b h g) = (hi S : EReal) := by
  have hm := most_apply s b h g S hs
  unfold top
  generalize most s = t at hm ⊢
  generalize hi S = y at hm ⊢
  pointwise
  rw [hm, lit_bot]
  exact max_eq_right bot_le

/-- A shifted exponential. -/
theorem expo_apply (s : FVec Ideal S8x32x4x2048 .f32) (b : Fin 8) (h : Fin 32) (g : Fin 4) (S : Fin 2048 → ℝ)
    (hs : ∀ n, s (ix4 b h g n) = (S n : EReal)) (n : Fin 2048) :
    expo s (ix4 b h g n) = Ideal.exp ((S n : EReal) - (hi S : EReal)) := by
  have ht := top_apply s b h g S hs
  unfold expo qWide
  generalize top s = t at ht ⊢
  pointwise
  rw [hs, ht]

/-- A softmax weight. -/
theorem soft_apply (s : FVec Ideal S8x32x4x2048 .f32) (b : Fin 8) (h : Fin 32) (g : Fin 4) (S : Fin 2048 → ℝ)
    (hs : ∀ n, s (ix4 b h g n) = (S n : EReal)) (n : Fin 2048) :
    soft s (ix4 b h g n) = Ideal.div (Ideal.exp ((S n : EReal) - (hi S : EReal)))
      (∑ k, Ideal.exp ((S k : EReal) - (hi S : EReal))) := by
  have he := expo_apply s b h g S hs
  unfold soft qWide
  generalize expo s = e at he ⊢
  pointwise
  simp only [he]

/-- The reference's result over real inputs. -/
theorem out_apply (q : FVec Ideal S8x32x4x128 .f32) (k v : FVec Ideal S8x32x2048x128 .f32)
    (Q : Fin 8 → Fin 32 → Fin 4 → Fin 128 → ℝ) (K V : Fin 8 → Fin 32 → Fin 2048 → Fin 128 → ℝ)
    (hq : ∀ b h g d, q (ix4 b h g d) = (Q b h g d : EReal)) (hk : ∀ b h n d, k (ix4 b h n d) = (K b h n d : EReal))
    (hv : ∀ b h n d, v (ix4 b h n d) = (V b h n d : EReal)) (b : Fin 8) (h : Fin 32) (g : Fin 4) (d : Fin 128) :
    out q k v (ix4 b h g d) = (result Q K V b h g d : EReal) := by
  have hkd := kDeq_apply k K hk
  have hvd := vDeq_apply v V hv
  have hw := soft_apply (score q (kDeq k)) b h g (fun n => rowScore (Q b h g) (fun h d => K b h n d) h)
    (fun n => score_apply q (kDeq k) b h g n _ _ (hq b h g) (fun d => hkd b h n d))
  unfold out
  generalize soft (score q (kDeq k)) = w at hw ⊢
  generalize vDeq v = u at hvd ⊢
  pointwise
  simp only [hw, hvd]
  exact sum_softmax _ _ _

end Cert.ReferenceIdeal.Stage

end
-- ==== Proof.Finite.lean ====
/- The precondition read back: on finite inputs every element of the three arrays is a real number. -/
module

public import proofs.«01_k».proof.Pre_finite_inputs
public import proofs.«01_k».proof.Proof.Lits
public import Idealize.ShloMosaic.Lib.ReduceAll

@[expose] public section

set_option maxRecDepth 16384

noncomputable section

namespace Cert.Pre_finite_inputs

open Idealize.ShloMosaic Cert.Attn

/-- The shape relations that the precondition's operations state. -/
theorem facts : Facts := ⟨by decide, by decide, by decide, by decide, by decide⟩

attribute [local instance] facts

open Facts

/-- There is one index of rank zero. -/
theorem sub_S_ : Subsingleton S_.Idx := ⟨fun a b => funext fun i => i.elim0⟩

/-- An extended real whose absolute value compares below infinity is a real. -/
theorem real_of_lt (x : EReal) (h : max x (-x) < ⊤) : x = (x.toReal : EReal) := by
  induction x with
  | bot => simp at h
  | top => simp at h
  | coe r => rfl

/-- A comparison that came out true. -/
theorem lt_of_ofBool (p : Prop) [Decidable p] (h : BitVec.ofBool (decide p) = 1#1) : p := by
  by_contra hn
  rw [decide_eq_false hn] at h
  exact absurd h (by decide)

/-- An array of the queries' shape whose elements all compare finite holds reals. -/
theorem real_q (x : FVec Ideal S8x32x4x128 .f32)
    (e : Host.reduce IntOp.andi (cmpf .olt (Host.absf x)
      (broadcastInDim S8x32x4x128 ![] bcast_S_S8x32x4x128 (constant (F := Ideal) S_ .f32 0x7F800000#32)))
      (constantI S_ 1 1#1) reducesTo_S8x32x4x128_S_d0_1_2_3 h_S_ ix0 = 1#1) (i : S8x32x4x128.Idx) :
    x i = ((x i).toReal : EReal) := by
  have := sub_S_
  have h := Host.reduce_andi_all _ _ _ _ _ e i
  idx_vars i
  pointwise at h
  rw [lit_top] at h
  exact real_of_lt _ (lt_of_ofBool _ h)

/-- An array of the keys' and values' shape whose elements all compare finite holds reals. -/
theorem real_kv (x : FVec Ideal S8x32x2048x128 .f32)
    (e : Host.reduce IntOp.andi (cmpf .olt (Host.absf x)
      (broadcastInDim S8x32x2048x128 ![] bcast_S_S8x32x2048x128 (constant (F := Ideal) S_ .f32 0x7F800000#32)))
      (constantI S_ 1 1#1) reducesTo_S8x32x2048x128_S_d0_1_2_3 h_S_ ix0 = 1#1) (i : S8x32x2048x128.Idx) :
    x i = ((x i).toReal : EReal) := by
  have := sub_S_
  have h := Host.reduce_andi_all _ _ _ _ _ e i
  idx_vars i
  pointwise at h
  rw [lit_top] at h
  exact real_of_lt _ (lt_of_ofBool _ h)

/-- Two flags whose conjunction is one are both one. -/
theorem and_one (a b : BitVec 1) (h : IntOp.andi a b = 1#1) : a = 1#1 ∧ b = 1#1 := by
  revert a b
  decide

/-- On finite inputs every element of the three arrays is a real. -/
theorem real_of_fn (q : FVec Ideal S8x32x4x128 .f32) (k v : FVec Ideal S8x32x2048x128 .f32)
    (e : fn (F := Ideal) q k v = fun _ => 1#1) :
    (∀ i, q i = ((q i).toReal : EReal)) ∧ (∀ i, k i = ((k i).toReal : EReal)) ∧ (∀ i, v i = ((v i).toReal : EReal)) := by
  have h := congrFun e ix0
  obtain ⟨h12, h3⟩ := and_one _ _ h
  obtain ⟨h1, h2⟩ := and_one _ _ h12
  exact ⟨real_q q h1, real_kv k h2, real_kv v h3⟩

end Cert.Pre_finite_inputs

end
-- ==== Proof.Equal.lean ====
/- On finite inputs the kernel's result array is the reference's. -/
module

public import proofs.«01_k».proof.Proof.Grid
public import proofs.«01_k».proof.Proof.Ref
public import proofs.«01_k».proof.Proof.Finite

@[expose] public section

set_option maxRecDepth 16384

noncomputable section

namespace Cert.Equal

open Idealize.ShloMosaic Idealize.ShloMosaic.TcCoe Idealize.SL.Sem Cert.Attn

attribute [local instance] Cert.Pre_finite_inputs.facts

/-- From equal, finite arguments the reference's result is the array that the kernel's run leaves. -/
theorem result_eq (m : (ℓ : Loc Cert.KernelIdeal.nD Cert.KernelIdeal.τ Cert.KernelIdeal.sig) → Buf (Elt Ideal) ℓ)
    (c : Dev Cert.KernelIdeal.nD)
    (e : Cert.Pre_finite_inputs.fn (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)) = fun _ => 1#1) :
    (Cert.ReferenceIdeal.Stage.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)))
      = Cert.KernelIdeal.Value.G3 m c := by
  obtain ⟨hq, hk, hv⟩ := Cert.Pre_finite_inputs.real_of_fn _ _ _ e
  funext i
  idx_vars i
  exact (Cert.ReferenceIdeal.Stage.out_apply _ _ _ _ _ _ (fun b h g d => hq (ix4 b h g d)) (fun b h n d => hk (ix4 b h n d))
    (fun b h n d => hv (ix4 b h n d)) i0 i1 i2 i3).trans
    (Cert.KernelIdeal.Grid.out_apply m c _ _ _ (fun b h g d => hq (ix4 b h g d)) (fun b h n d => hk (ix4 b h n d))
      (fun b h n d => hv (ix4 b h n d)) i0 i1 i2 i3).symm

end Cert.Equal

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Equal
public import Idealize.ShloMosaic.Adequacy
public import Idealize.ShloMosaic.Init

@[expose] public section

noncomputable section

namespace Cert.Proof

open Idealize.ShloMosaic Idealize.SL.Sem

attribute [local instance] Cert.Pre_finite_inputs.facts

/-- The kernel runs, leaves its arguments as they were and every semaphore at zero. -/
theorem frame_p : Cert.quiescent_Kernel := fun m ρ _ => Cert.Kernel.Gen.frame m ρ

/-- The kernel over extended reals runs, leaves its arguments as they were and every semaphore at zero. -/
theorem frame_pi : Cert.quiescent_KernelIdeal := fun m ρ _ => Cert.KernelIdeal.Gen.frame m ρ

/-- The same from finite inputs. -/
theorem frame_pi_finite : Cert.quiescent_KernelIdeal_pre_finite_inputs := fun m ρ _ => Cert.KernelIdeal.Gen.frame m ρ

/-- The reference runs, leaves its arguments as they were and every semaphore at zero. -/
theorem frame_ri : Cert.quiescent_ReferenceIdeal := fun m ρ _ =>
  (θ_run Cert.ReferenceIdeal.defs _ _).mono (fun r h => ⟨fun c => (h c).2,
      Idealize.ShloMosaic.sem_eq_zero_of_no_sems (by decide) r.2⟩)
    (Cert.ReferenceIdeal.Value.run (F := Ideal) m ρ)

/-- The same from finite inputs. -/
theorem frame_ri_finite : Cert.quiescent_ReferenceIdeal_pre_finite_inputs := fun m ρ _ => frame_ri m ρ trivial

/-- The three named constants have the values that their literals were rounded from. -/
theorem preserves : Cert.preserves_Kernel_KernelIdeal :=
  ⟨IdealRules.named_const.statement Cert.KernelIdeal.κ "third" .f32 0x3EAAAAAB#32 ((1 / 3 : ℝ) : EReal) rfl,
    IdealRules.named_const.statement Cert.KernelIdeal.κ "fifteenth" .f32 0x3D888889#32 ((1 / 15 : ℝ) : EReal) rfl,
    IdealRules.named_const.statement Cert.KernelIdeal.κ "rsqrt_d" .f32 0x3DB504F3#32 (((Real.sqrt 128)⁻¹ : ℝ) : EReal) rfl⟩

/-- From equal, finite arguments the kernel and the reference end with the same result array. -/
theorem algebraic : Cert.algebraic_KernelIdeal_ReferenceIdeal_pre_finite_inputs := by
  intro m ρ m' ρ' hpre hagree
  refine ⟨fun c => Cert.KernelIdeal.Value.G3 m c, Cert.KernelIdeal.Value.run (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2⟩ := hagree c
  refine (Cert.ReferenceIdeal.Stage.res_eq m' c).trans ?_
  rw [h0, h1, h2]
  exact Cert.Equal.result_eq m c (hpre c)

/-- Everything the certificate claims. -/
theorem claim : Cert.Claim :=
  ⟨Cert.Kernel.Gen.facts, Cert.KernelIdeal.Gen.facts, Cert.ReferenceIdeal.Gen.facts, Cert.Pre_finite_inputs.facts,
    frame_p, frame_pi, frame_pi_finite, frame_ri, frame_ri_finite, preserves, algebraic⟩

end Cert.Proof

end
